-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_routing : Cert.Pre_finite_routing.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ preserves_Kernel_KernelIdeal
    ∧ algebraic_KernelIdeal_ReferenceIdeal_pre_finite_routing (hKernelIdeal := hKernelIdeal) (hReferenceIdeal := hReferenceIdeal) (hPre_finite_routing := hPre_finite_routing)
-- ==== Pre_finite_routing.lean ====
abbrev S1x2048x768 : Shape := ⟨3, ![1, 2048, 768]⟩
abbrev S8x768 : Shape := ⟨2, ![8, 768]⟩
abbrev S8 : Shape := ⟨1, ![8]⟩
abbrev S8x768x4096 : Shape := ⟨3, ![8, 768, 4096]⟩
abbrev S8x4096 : Shape := ⟨2, ![8, 4096]⟩
abbrev S8x2048x768 : Shape := ⟨3, ![8, 2048, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S8x768 .f32) (main_arg2 : FVec F S8 .f32) (main_arg3 : FVec F S8x768x4096 .f32) (main_arg4 : FVec F S8x4096 .f32) (main_arg5 : FVec F S8x2048x768 .f32) (main_arg6 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S1x2048x768 : Shape := ⟨3, ![1, 2048, 768]⟩
abbrev S8x768 : Shape := ⟨2, ![8, 768]⟩
abbrev S8 : Shape := ⟨1, ![8]⟩
abbrev S8x768x4096 : Shape := ⟨3, ![8, 768, 4096]⟩
abbrev S8x4096 : Shape := ⟨2, ![8, 4096]⟩
abbrev S8x2048x768 : Shape := ⟨3, ![8, 2048, 768]⟩
abbrev S2048x768 : Shape := ⟨2, ![2048, 768]⟩
abbrev S768x8 : Shape := ⟨2, ![768, 8]⟩
abbrev S1x8 : Shape := ⟨2, ![1, 8]⟩
abbrev S2048x8 : Shape := ⟨2, ![2048, 8]⟩
abbrev S2048 : Shape := ⟨1, ![2048]⟩
abbrev S2048x1 : Shape := ⟨2, ![2048, 1]⟩
abbrev S8x768x2048x2 : Shape := ⟨4, ![8, 768, 2048, 2]⟩
abbrev S8x768x2048x1 : Shape := ⟨4, ![8, 768, 2048, 1]⟩
abbrev S8x768x2048 : Shape := ⟨3, ![8, 768, 2048]⟩
abbrev S8x1x2048x2 : Shape := ⟨4, ![8, 1, 2048, 2]⟩
abbrev S8x1x2048x1 : Shape := ⟨4, ![8, 1, 2048, 1]⟩
abbrev S8x1x2048 : Shape := ⟨3, ![8, 1, 2048]⟩
abbrev S8x1x768 : Shape := ⟨3, ![8, 1, 768]⟩
abbrev S1x768x512 : Shape := ⟨3, ![1, 768, 512]⟩
abbrev S1x512x768 : Shape := ⟨3, ![1, 512, 768]⟩
abbrev S1x1x512 : Shape := ⟨3, ![1, 1, 512]⟩
abbrev S1x1x768 : Shape := ⟨3, ![1, 1, 768]⟩
abbrev S768x512 : Shape := ⟨2, ![768, 512]⟩
abbrev S2048x512 : Shape := ⟨2, ![2048, 512]⟩
abbrev S1x512 : Shape := ⟨2, ![1, 512]⟩
abbrev S512x768 : Shape := ⟨2, ![512, 768]⟩
abbrev S1x768 : Shape := ⟨2, ![1, 768]⟩

abbrev nBuf : Space → Nat
  | .hbm => 24
  | .vmem => 19
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S8x768x4096, .f32⟩
  | .hbm, ⟨4, _⟩ => ⟨S8x4096, .f32⟩
  | .hbm, ⟨5, _⟩ => ⟨S8x2048x768, .f32⟩
  | .hbm, ⟨6, _⟩ => ⟨S8x768, .f32⟩
  | .hbm, ⟨7, _⟩ => ⟨S2048x768, .f32⟩
  | .hbm, ⟨8, _⟩ => ⟨S768x8, .f32⟩
  | .hbm, ⟨9, _⟩ => ⟨S1x8, .f32⟩
  | .hbm, ⟨10, _⟩ => ⟨S2048x8, .f32⟩
  | .hbm, ⟨11, _⟩ => ⟨S8x768x2048x2, .f32⟩
  | .hbm, ⟨12, _⟩ => ⟨S8x768x2048x1, .f32⟩
  | .hbm, ⟨13, _⟩ => ⟨S8x768x2048, .f32⟩
  | .hbm, ⟨14, _⟩ => ⟨S8x768x2048x1, .f32⟩
  | .hbm, ⟨15, _⟩ => ⟨S8x768x2048, .f32⟩
  | .hbm, ⟨16, _⟩ => ⟨S8x1x2048x2, .f32⟩
  | .hbm, ⟨17, _⟩ => ⟨S8x1x2048x1, .f32⟩
  | .hbm, ⟨18, _⟩ => ⟨S8x1x2048, .f32⟩
  | .hbm, ⟨19, _⟩ => ⟨S8x1x2048x1, .f32⟩
  | .hbm, ⟨20, _⟩ => ⟨S8x1x2048, .f32⟩
  | .hbm, ⟨21, _⟩ => ⟨S8x1x768, .f32⟩
  | .hbm, ⟨22, _⟩ => ⟨S2048x768, .f32⟩
  | .hbm, ⟨23, _⟩ => ⟨S1x2048x768, .f32⟩
  | .local _ .vmem, ⟨0, _⟩ => ⟨S2048x768, .f32⟩
  | .local _ .vmem, ⟨1, _⟩ => ⟨S768x8, .f32⟩
  | .local _ .vmem, ⟨2, _⟩ => ⟨S1x8, .f32⟩
  | .local _ .vmem, ⟨3, _⟩ => ⟨S2048x8, .f32⟩
  | .local _ .vmem, ⟨4, _⟩ => ⟨S2048x8, .f32⟩
  | .local _ .vmem, ⟨5, _⟩ => ⟨S2048x768, .f32⟩
  | .local _ .vmem, ⟨6, _⟩ => ⟨S1x768x512, .f32⟩
  | .local _ .vmem, ⟨7, _⟩ => ⟨S1x768x512, .f32⟩
  | .local _ .vmem, ⟨8, _⟩ => ⟨S1x768x512, .f32⟩
  | .local _ .vmem, ⟨9, _⟩ => ⟨S1x768x512, .f32⟩
  | .local _ .vmem, ⟨10, _⟩ => ⟨S1x512x768, .f32⟩
  | .local _ .vmem, ⟨11, _⟩ => ⟨S1x512x768, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x768, .f32⟩
  | .local _ .vmem, ⟨17, _⟩ => ⟨S1x1x768, .f32⟩
  | .local _ .vmem, ⟨18, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x768x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x768x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S2048x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== ReferenceIdeal.lean ====
abbrev S1x2048x768 : Shape := ⟨3, ![1, 2048, 768]⟩
abbrev S8x768 : Shape := ⟨2, ![8, 768]⟩
abbrev S8 : Shape := ⟨1, ![8]⟩
abbrev S8x768x4096 : Shape := ⟨3, ![8, 768, 4096]⟩
abbrev S8x4096 : Shape := ⟨2, ![8, 4096]⟩
abbrev S8x2048x768 : Shape := ⟨3, ![8, 2048, 768]⟩
abbrev S2048x768 : Shape := ⟨2, ![2048, 768]⟩
abbrev S768x8 : Shape := ⟨2, ![768, 8]⟩
abbrev S2048x8 : Shape := ⟨2, ![2048, 8]⟩
abbrev S1x8 : Shape := ⟨2, ![1, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S8x2048x4096 : Shape := ⟨3, ![8, 2048, 4096]⟩
abbrev S8x1x4096 : Shape := ⟨3, ![8, 1, 4096]⟩
abbrev S8x2048x2048 : Shape := ⟨3, ![8, 2048, 2048]⟩
abbrev S8x1x768 : Shape := ⟨3, ![8, 1, 768]⟩
abbrev S8x2048 : Shape := ⟨2, ![8, 2048]⟩
abbrev S8x2048x1 : Shape := ⟨3, ![8, 2048, 1]⟩

abbrev nBuf : Space → Nat
  | .hbm => 98
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S8x768x4096, .f32⟩
  | .hbm, ⟨4, _⟩ => ⟨S8x4096, .f32⟩
  | .hbm, ⟨5, _⟩ => ⟨S8x2048x768, .f32⟩
  | .hbm, ⟨6, _⟩ => ⟨S8x768, .f32⟩
  | .hbm, ⟨7, _⟩ => ⟨S2048x768, .f32⟩
  | .hbm, ⟨8, _⟩ => ⟨S768x8, .f32⟩
  | .hbm, ⟨9, _⟩ => ⟨S2048x8, .f32⟩
  | .hbm, ⟨10, _⟩ => ⟨S1x8, .f32⟩
  | .hbm, ⟨11, _⟩ => ⟨S2048x8, .f32⟩
  | .hbm, ⟨12, _⟩ => ⟨S2048x8, .f32⟩
  | .hbm, ⟨13, _⟩ => ⟨S2048x2, .f32⟩
  | .hbm, ⟨14, _⟩ => ⟨S2048x2, .i32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x2, .f32⟩
  | .hbm, ⟨22, _⟩ => ⟨S2048x2, .f32⟩
  | .hbm, ⟨23, _⟩ => ⟨S2048x2, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x2, .f32⟩
  | .hbm, ⟨28, _⟩ => ⟨S2048x2, .f32⟩
  | .hbm, ⟨29, _⟩ => ⟨S_, .f32⟩
  | .hbm, ⟨30, _⟩ => ⟨S2048x8, .f32⟩
  | .hbm, ⟨31, _⟩ => ⟨S2048, .i32⟩
  | .hbm, ⟨32, _⟩ => ⟨S2048x1, .i32⟩
  | .hbm, ⟨33, _⟩ => ⟨S_, .i32⟩
  | .hbm, ⟨34, _⟩ => ⟨S2048x1, .i32⟩
  | .hbm, ⟨35, _⟩ => ⟨S2048x1, .i1⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S_, .i32⟩
  | .hbm, ⟨41, _⟩ => ⟨S2048x2, .i32⟩
  | .hbm, ⟨42, _⟩ => ⟨S2048x2, .i1⟩
  | .hbm, ⟨43, _⟩ => ⟨S_, .i32⟩
  | .hbm, ⟨44, _⟩ => ⟨S2048x2, .i32⟩
  | .hbm, ⟨45, _⟩ => ⟨S2048x2, .i32⟩
  | .hbm, ⟨46, _⟩ => ⟨S2048x2, .i32⟩
  | .hbm, ⟨47, _⟩ => ⟨S2048x2, .i32⟩
  | .hbm, ⟨48, _⟩ => ⟨S2048x2x1, .i32⟩
  | .hbm, ⟨49, _⟩ => ⟨S2048x2x1, .i32⟩
  | .hbm, ⟨50, _⟩ => ⟨S2048x2x2, .i32⟩
  | .hbm, ⟨51, _⟩ => ⟨S2048x8, .f32⟩
  | .hbm, ⟨52, _⟩ => ⟨S1x2048x768, .f32⟩
  | .hbm, ⟨53, _⟩ => ⟨S8x2048x768, .f32⟩
  | .hbm, ⟨54, _⟩ => ⟨S8x2048x4096, .f32⟩
  | .hbm, ⟨55, _⟩ => ⟨S8x1x4096, .f32⟩
  | .hbm, ⟨56, _⟩ => ⟨S8x2048x4096, .f32⟩
  | .hbm, ⟨57, _⟩ => ⟨S8x2048x4096, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048x2048, .f32⟩
  | .hbm, ⟨78, _⟩ => ⟨S8x2048x2048, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S8x2048x768, .f32⟩
  | .hbm, ⟨88, _⟩ => ⟨S8x1x768, .f32⟩
  | .hbm, ⟨89, _⟩ => ⟨S8x2048x768, .f32⟩
  | .hbm, ⟨90, _⟩ => ⟨S8x2048x768, .f32⟩
  | .hbm, ⟨91, _⟩ => ⟨S8x2048, .f32⟩
  | .hbm, ⟨92, _⟩ => ⟨S8x2048x1, .f32⟩
  | .hbm, ⟨93, _⟩ => ⟨S8x2048x768, .f32⟩
  | .hbm, ⟨94, _⟩ => ⟨S8x2048x768, .f32⟩
  | .hbm, ⟨95, _⟩ => ⟨S_, .f32⟩
  | .hbm, ⟨96, _⟩ => ⟨S2048x768, .f32⟩
  | .hbm, ⟨97, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Proof.KernelRun.lean ====
/-
  The kernel's launch, read further than its frame: besides the arguments, what the result buffer
  holds at the end. The set-up of the launch (its segments, ghost state and side conditions) is the
  frame's; only the statement read off the final state is new.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; at the
    end every argument is as launched and the result buffer holds what the last host stretch leaves in it. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Val

end
-- ==== Proof.RefFrame.lean ====
/-
  The reference's frame: its arguments end unchanged, and the machine's counters are at zero, since
  the reference declares no counter at all.
-/
module

public import proofs.«01_k».proof.Proof.Gen.ReferenceIdeal.Run

@[expose] public section

noncomputable section

namespace Cert.ReferenceIdeal.Val

open Cert.ReferenceIdeal Cert.ReferenceIdeal.Gen
open Idealize.ShloMosaic Idealize.ShloMosaic.TcCoe Idealize.SL.Sem

variable {F : FTy → Type} [FloatOps F]

/-- The reference declares no counter. -/
theorem no_sem (sm : SemLoc sig) : False := by
  revert sm; decide

/-- The reference's frame: from any memory with zero counters it terminates, nothing faulting, with its arguments as
    launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h c).2, funext fun g => (no_sem g.2).elim⟩) (Value.run m ρ)

end Cert.ReferenceIdeal.Val

end
-- ==== Proof.Spec.lean ====
/-
  The mathematics both programs compute, over the extended reals and naming neither program: the two largest of eight
  logits, the weights they get, one expert's activation, and the sum over the experts.
-/
module

public import Idealize.ShloMosaic.PureOps.Ideal
public import Idealize.ShloMosaic.Lib.Pointwise

@[expose] public section

set_option maxRecDepth 16384

noncomputable section

namespace MoeSpec

open Idealize.ShloMosaic

/-- Among eight logits, `a` is the place of the largest and `b` of the largest of the others, the smaller place winning a tie. -/
structure IsTop2 (l : Fin 8 → EReal) (a b : Fin 8) : Prop where
  ne : b ≠ a
  ge_a : ∀ j, l j ≤ l a
  first_a : ∀ j, j < a → l j < l a
  ge_b : ∀ j, j ≠ a → l j ≤ l b
  first_b : ∀ j, j ≠ a → j < b → l j < l b

/-- The weight of the first place, given the two largest logits. -/
def w1 (x y : EReal) : EReal := Ideal.div 1 (1 + Ideal.exp (y - x))

/-- The weight of the second place. -/
def w2 (x y : EReal) : EReal := 1 - w1 x y

/-- The weight of expert `e` when the two chosen are `a` and `b`. -/
def topW (l : Fin 8 → EReal) (a b e : Fin 8) : EReal :=
  (if e = a then w1 (l a) (l b) else 0) + (if e = b then w2 (l a) (l b) else 0)

/-- Over the reals the first weight is `1 / (1 + exp (y - x))`. -/
theorem w1_coe (x y : ℝ) : w1 (x : EReal) (y : EReal) = ((1 / (1 + Real.exp (y - x)) : ℝ) : EReal) := by
  have h : (1 : ℝ) + Real.exp (y - x) ≠ 0 := (add_pos one_pos (Real.exp_pos _)).ne'
  unfold w1
  rw [← EReal.coe_sub]
  show Ideal.div 1 (1 + ((Real.exp (y - x) : ℝ) : EReal)) = _
  rw [← EReal.coe_one, ← EReal.coe_add]
  unfold Ideal.div
  rw [if_neg (by exact_mod_cast h), ← EReal.coe_inv, ← EReal.coe_mul, one_div, one_mul]

/-- Over the reals the second weight is one minus the first. -/
theorem w2_coe (x y : ℝ) : w2 (x : EReal) (y : EReal) = ((1 - 1 / (1 + Real.exp (y - x)) : ℝ) : EReal) := by
  unfold w2
  rw [w1_coe, ← EReal.coe_one, ← EReal.coe_sub]

/-- The first weight as the softmax of the two logits writes it. -/
theorem w1_softmax (x y : ℝ) : Ideal.div (Ideal.exp ((x : EReal) - x)) (Ideal.exp ((x : EReal) - x) + Ideal.exp ((y : EReal) - x))
    = w1 x y := by
  rw [← EReal.coe_sub, sub_self]
  show Ideal.div ((Real.exp 0 : ℝ) : EReal) (((Real.exp 0 : ℝ) : EReal) + _) = _
  rw [Real.exp_zero]
  rfl

/-- The second weight as the softmax of the two logits writes it. -/
theorem w2_softmax (x y : ℝ) : Ideal.div (Ideal.exp ((y : EReal) - x)) (Ideal.exp ((x : EReal) - x) + Ideal.exp ((y : EReal) - x))
    = w2 x y := by
  have h : (1 : ℝ) + Real.exp (y - x) ≠ 0 := (add_pos one_pos (Real.exp_pos _)).ne'
  rw [w2_coe, ← EReal.coe_sub, ← EReal.coe_sub, sub_self]
  show Ideal.div ((Real.exp (y - x) : ℝ) : EReal) (((Real.exp 0 : ℝ) : EReal) + ((Real.exp (y - x) : ℝ) : EReal)) = _
  rw [Real.exp_zero, ← EReal.coe_add]
  unfold Ideal.div
  rw [if_neg (by exact_mod_cast h), ← EReal.coe_inv, ← EReal.coe_mul]
  congr 1
  field_simp
  ring

/-- A weight is a nonnegative real. -/
theorem topW_real {l : Fin 8 → EReal} (hl : ∀ j, l j ≠ ⊤ ∧ l j ≠ ⊥) (a b e : Fin 8) : 0 ≤ topW l a b e ∧ topW l a b e ≠ ⊤ := by
  obtain ⟨x, hx⟩ : ∃ x : ℝ, l a = x := ⟨(l a).toReal, (EReal.coe_toReal (hl a).1 (hl a).2).symm⟩
  obtain ⟨y, hy⟩ : ∃ y : ℝ, l b = y := ⟨(l b).toReal, (EReal.coe_toReal (hl b).1 (hl b).2).symm⟩
  have hp := Real.exp_pos (y - x)
  have h1 : (0 : ℝ) ≤ 1 / (1 + Real.exp (y - x)) := by positivity
  have h2 : (0 : ℝ) ≤ 1 - 1 / (1 + Real.exp (y - x)) := by
    rw [sub_nonneg, div_le_one (by positivity)]; linarith
  have key : topW l a b e = (((if e = a then 1 / (1 + Real.exp (y - x)) else 0)
      + (if e = b then 1 - 1 / (1 + Real.exp (y - x)) else 0) : ℝ) : EReal) := by
    unfold topW
    rw [hx, hy, w1_coe, w2_coe, EReal.coe_add]
    split <;> split <;> rfl
  rw [key]
  refine ⟨?_, EReal.coe_ne_top _⟩
  rw [EReal.coe_nonneg]
  split <;> split <;> linarith

/-! ## The same two places found by maxima and least indices -/

/-- The pattern the maxima start from is minus infinity. -/
theorem neg_inf : Ideal.ofBits .f32 0xFF800000#32 = ⊥ := by simp [Ideal.ofBits, Ideal.ieee]

/-- The maximum of eight logits, started at minus infinity, is the largest one. -/
theorem fold_max {l : Fin 8 → EReal} {a : Fin 8} (h : ∀ j, l j ≤ l a) :
    Finset.fold max (Ideal.ofBits .f32 0xFF800000#32) l Finset.univ = l a := by
  rw [neg_inf]
  refine le_antisymm ?_ ?_
  · rw [Finset.fold_max_le]
    exact ⟨bot_le, fun j _ => h j⟩
  · rw [Finset.le_fold_max]
    exact .inr ⟨a, Finset.mem_univ _, le_rfl⟩

/-- Over all choices of which of eight places hold: the signed minimum of the holding indices is the first holding one. -/
theorem first_bool : ∀ (q : Fin 8 → Bool) (a : Fin 8), q a = true → (∀ j, j < a → q j = false) →
    Finset.fold IntOp.minsi 2147483647#32 (fun x : Fin 8 => if q x = true then BitVec.ofNat 32 x.val else 8#32) Finset.univ
      = BitVec.ofNat 32 a.val := by
  decide +kernel

/-- The signed minimum of the indices at which `P` holds (8 standing for the others) is the first such index. -/
theorem fold_first (P : Fin 8 → Prop) [DecidablePred P] (a : Fin 8) (ha : P a) (hlt : ∀ j, j < a → ¬P j) :
    Finset.fold IntOp.minsi 2147483647#32 (fun x : Fin 8 => if P x then BitVec.ofNat 32 x.val else 8#32) Finset.univ
      = BitVec.ofNat 32 a.val := by
  rw [← first_bool (fun x => decide (P x)) a (by simpa using ha) (fun j hj => by simpa using hlt j hj)]
  simp only [decide_eq_true_eq]

/-- The logits with the first place struck out. -/
def strike (l : Fin 8 → EReal) (a : Fin 8) : Fin 8 → EReal := fun j => if j = a then ⊥ else l j

/-- With the first place struck out, no logit exceeds the second. -/
theorem strike_ge {l : Fin 8 → EReal} {a b : Fin 8} (h : IsTop2 l a b) (j : Fin 8) : strike l a j ≤ strike l a b := by
  unfold strike
  rw [if_neg h.ne]
  split
  · exact bot_le
  · rename_i hj; exact h.ge_b j hj

/-- The second place keeps its logit. -/
theorem strike_b {l : Fin 8 → EReal} {a b : Fin 8} (h : IsTop2 l a b) : strike l a b = l b := if_neg h.ne

/-- No earlier place reaches it. -/
theorem strike_first {l : Fin 8 → EReal} {a b : Fin 8} (h : IsTop2 l a b) (hb : l b ≠ ⊥) (j : Fin 8) (hj : j < b) :
    strike l a j ≠ l b := by
  unfold strike
  split
  · exact hb.symm
  · rename_i hja; exact (h.first_b j hja hj).ne

/-- Two index words below 2³² are equal exactly when the indices are. -/
theorem select_index {α : Type} (e a : Fin 8) (x y : α) :
    Scalar.select (IntOp.cmpi .eq (BitVec.ofNat 32 e.val) (BitVec.ofNat 32 a.val)) x y = if e = a then x else y := by
  revert e a
  have h : ∀ e a : Fin 8, IntOp.cmpi .eq (BitVec.ofNat 32 e.val) (BitVec.ofNat 32 a.val) = if e = a then 1#1 else 0#1 := by
    decide +kernel
  intro e a
  rw [h]
  by_cases hea : e = a
  · rw [if_pos hea, if_pos hea]; rfl
  · rw [if_neg hea, if_neg hea]; rfl

/-! ## The experts -/

/-- One logit: token `t` against expert `e`. -/
def lg (X : Fin 2048 → Fin 768 → EReal) (W : Fin 8 → Fin 768 → EReal) (b : Fin 8 → EReal) (t : Fin 2048) (e : Fin 8) : EReal :=
  (∑ k, X t k * W e k) + b e

/-- The activation of a gate and an up value: both clipped at seven, the up value also at minus seven, the gate times
    its sigmoid at 1.702 times itself, the up value plus one. -/
def act (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (Ideal.ofBits .f32 0xBFD9DB23#32 * min g (Ideal.ofBits .f32 0x40E00000#32))))

/-- The factor of the down projection's bias: one at an expert's first block, zero at the others. -/
def firstBlock (n : ℕ) : EReal := if n = 0 then 1 else 0

/-- A weighted sum over the experts: `T e f` is expert `e`'s product at inner column `f`, `d e` its bias and `w e` its weight. -/
def mix (T : Fin 8 → Fin 2048 → EReal) (d w : Fin 8 → EReal) : EReal := ∑ e, ((∑ f, T e f) + d e) * w e

/-- Multiplying a finite sum by a nonnegative real multiplies its terms. -/
theorem sum_mul_real {ι : Type} (s : Finset ι) (g : ι → EReal) {w : EReal} (h0 : 0 ≤ w) (ht : w ≠ ⊤) :
    (∑ i ∈ s, g i) * w = ∑ i ∈ s, g i * w := by
  classical
  induction s using Finset.induction_on with
  | empty => simp
  | insert i s hi ih =>
    rw [Finset.sum_insert hi, Finset.sum_insert hi, EReal.right_distrib_of_nonneg_of_ne_top h0 ht, ih]

/-- An expert's four blocks, the bias added to the first alone and each block weighted, are the whole expert weighted. -/
theorem blocks_eq (T : Fin 2048 → EReal) (d w : EReal) (h0 : 0 ≤ w) (ht : w ≠ ⊤) :
    ∑ i : Fin 4, ((∑ f : Fin 512, T ⟨i.val * 512 + f.val, by omega⟩) + firstBlock i.val * d) * w = ((∑ f, T f) + d) * w := by
  rw [← sum_mul_real Finset.univ _ h0 ht, Finset.sum_add_distrib]
  congr 2
  · exact (Fin.sum_univ_tiles 4 512 rfl T).symm
  · rw [Fin.sum_univ_four]
    show firstBlock 0 * d + firstBlock 1 * d + firstBlock 2 * d + firstBlock 3 * d = d
    unfold firstBlock
    simp

/-- The thirty-two blocks of the eight experts, point `n` being block `n % 4` of expert `n / 4`, sum to the weighted sum over the experts. -/
theorem points_eq (T : Fin 8 → Fin 2048 → EReal) (d w : Fin 8 → EReal) (h : ∀ e, 0 ≤ w e ∧ w e ≠ ⊤) :
    ∑ n : Fin 32, ((∑ f : Fin 512, T ⟨n.val / 4, by omega⟩ ⟨n.val % 4 * 512 + f.val, by omega⟩)
      + firstBlock (n.val % 4) * d ⟨n.val / 4, by omega⟩) * w ⟨n.val / 4, by omega⟩ = mix T d w := by
  unfold mix
  rw [Fin.sum_univ_tiles 8 4 rfl]
  refine Finset.sum_congr rfl fun e _ => ?_
  rw [← blocks_eq (T e) (d e) (w e) (h e).1 (h e).2]
  refine Finset.sum_congr rfl fun i _ => ?_
  have h1 : (e.val * 4 + i.val) / 4 = e.val := by omega
  have h2 : (e.val * 4 + i.val) % 4 = i.val := by omega
  simp only [h1, h2, Fin.eta]

end MoeSpec

end
-- ==== Proof.KernelStep.lean ====
/-
  What one grid point of the expert kernel leaves in the output's buffer: the sum so far plus this
  point's contribution, a point that resets starting from zero.
-/
module

public import proofs.«01_k».proof.Proof.Gen.KernelIdeal.Frame
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe

variable {F : FTy → Type} [FloatOps F]

/-- Two zero offsets. -/
theorem off2 : (![0, 0] : Fin 2 → Nat) = fun _ => 0 := funext fun a => by fin_cases a <;> rfl
/-- Three zero offsets. -/
theorem off3 : (![0, 0, 0] : Fin 3 → Nat) = fun _ => 0 := funext fun a => by fin_cases a <;> rfl

/-- One step of the accumulation at grid coordinates `a0`, `a1`: the blocks are the weights, the tokens, the two
    halves of the up projection, the down projection, and the three biases. -/
def step (a0 a1 : BitVec 32) (x0 : Vec F S2048x8 .f32) (x1 : Vec F S2048x768 .f32) (x2 x3 : Vec F S1x768x512 .f32)
    (x4 : Vec F S1x512x768 .f32) (x5 x6 : Vec F S1x1x512 .f32) (x7 : Vec F S1x1x768 .f32) (acc : Vec F S2048x768 .f32) :
    Vec F S2048x768 .f32 :=
  k1_pay1 a0 a1 (k1_pay4 x1 x2 x5) (k1_pay5 x1 x3 x6) (k1_pay6 x1 x2 x5) (Scalar.ofBits .f32 0x3F800000#32) x4 x7 x0 acc

section
variable (c : Dev nD) (i : grid1.Coords) (a2 : Memref sig .tc .vmem S2048x8 .f32) (h2 : a2.IsWhole)
  (a3 : Memref sig .tc .vmem S2048x768 .f32) (h3 : a3.IsWhole) (a4 : Memref sig .tc .vmem S1x768x512 .f32) (h4 : a4.IsWhole)
  (a5 : Memref sig .tc .vmem S1x768x512 .f32) (h5 : a5.IsWhole) (a6 : Memref sig .tc .vmem S1x512x768 .f32) (h6 : a6.IsWhole)
  (a7 : Memref sig .tc .vmem S1x1x512 .f32) (h7 : a7.IsWhole) (a8 : Memref sig .tc .vmem S1x1x512 .f32) (h8 : a8.IsWhole)
  (a9 : Memref sig .tc .vmem S1x1x768 .f32) (h9 : a9.IsWhole) (a10 : Memref sig .tc .vmem S2048x768 .f32) (h10 : a10.IsWhole)
  (x0 : Vec F S2048x8 .f32) (x1 : Vec F S2048x768 .f32) (x2 x3 : Vec F S1x768x512 .f32)
  (x4 : Vec F S1x512x768 .f32) (x5 x6 : Vec F S1x1x512 .f32) (x7 : Vec F S1x1x768 .f32) (xo : Vec F S2048x768 .f32)

/-- A point that does not reset leaves the step over what the buffer held. -/
theorem out_B (hc : ¬cond1_0 i) :
    out1_B_8 c i a2 h2 a3 h3 a4 h4 a5 h5 a6 h6 a7 h7 a8 h8 a9 h9 a10 h10 hc x0 x1 x2 x3 x4 x5 x6 x7 xo
      = step (BitVec.ofNat 32 (i 0).val) (BitVec.ofNat 32 (i 1).val) x0 x1 x2 x3 x4 x5 x6 x7 xo := by
  unfold out1_B_8
  rw [View.read_writes_eq_canon _ _ _ (cover1_B_8 c i a2 h2 a3 h3 a4 h4 a5 h5 a6 h6 a7 h7 a8 h8 a9 h9 a10 h10 hc x0 x1 x2 x3 x4 x5 x6 x7 xo)]
  unfold kernelRun1_B
  dsimp only
  sl_unfold_words
  rw [View.canon_unit_zero off2]
  unfold step
  simp only [View.readAt_eq_ld, h2.read_unread, h3.read_unread, h4.read_unread, h5.read_unread, h6.read_unread,
    h7.read_unread, h8.read_unread, h9.read_unread, h10.read_unread, View.ld_unit_zero (S := S2048x8) off2,
    View.ld_unit_zero (S := S2048x768) off2, View.ld_unit_zero (S := S1x768x512) off3, View.ld_unit_zero (S := S1x512x768) off3,
    View.ld_unit_zero (S := S1x1x512) off3, View.ld_unit_zero (S := S1x1x768) off3]

/-- The point that resets leaves the step over zeros. -/
theorem out_A (hc : cond1_0 i) :
    out1_A_8 c i a2 h2 a3 h3 a4 h4 a5 h5 a6 h6 a7 h7 a8 h8 a9 h9 a10 h10 hc x0 x1 x2 x3 x4 x5 x6 x7
      = step (BitVec.ofNat 32 (i 0).val) (BitVec.ofNat 32 (i 1).val) x0 x1 x2 x3 x4 x5 x6 x7 (k1_pay2 (F := F)) := by
  unfold out1_A_8
  rw [View.read_writes_eq_canon _ _ _ (cover1_A_8 c i a2 h2 a3 h3 a4 h4 a5 h5 a6 h6 a7 h7 a8 h8 a9 h9 a10 h10 hc x0 x1 x2 x3 x4 x5 x6 x7)]
  unfold kernelRun1_A
  dsimp only
  sl_unfold_words
  rw [View.canon_cons_unit_zero (S := S2048x768) off2, View.readCov_unit_zero (S := S2048x768) _ off2]
  unfold step
  simp only [View.readAt_eq_ld, h2.read_unread, h3.read_unread, h4.read_unread, h5.read_unread, h6.read_unread,
    h7.read_unread, h8.read_unread, h9.read_unread, h10.read_unread, View.ld_unit_zero (S := S2048x8) off2,
    View.ld_unit_zero (S := S2048x768) off2, View.ld_unit_zero (S := S1x768x512) off3, View.ld_unit_zero (S := S1x512x768) off3,
    View.ld_unit_zero (S := S1x1x512) off3, View.ld_unit_zero (S := S1x1x768) off3]

end

end Cert.KernelIdeal.Val

end
-- ==== Proof.KernelPure.lean ====
/-
  What one grid point of the expert kernel adds, and what the router writes, entry by entry over the extended reals.
-/
module

public import proofs.«01_k».proof.Proof.Spec
public import proofs.«01_k».proof.Proof.KernelStep
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe
open MoeSpec

/-! ## One point of the expert kernel -/

/-- The comparison of a block's number with zero, as the float the kernel multiplies the bias by. -/
theorem first_word (n : ℕ) (hn : n < 4) :
    ((((Scalar.extui (Scalar.cmpi .eq (BitVec.ofNat 32 n) 0#32) : BitVec 32)).toInt : ℝ) : EReal) = firstBlock n := by
  unfold firstBlock
  interval_cases n
  · have : ((Scalar.extui (Scalar.cmpi .eq (BitVec.ofNat 32 0) 0#32) : BitVec 32)).toInt = 1 := by decide
    rw [this]; norm_num
  · have : ((Scalar.extui (Scalar.cmpi .eq (BitVec.ofNat 32 1) 0#32) : BitVec 32)).toInt = 0 := by decide
    rw [this]; norm_num
  · have : ((Scalar.extui (Scalar.cmpi .eq (BitVec.ofNat 32 2) 0#32) : BitVec 32)).toInt = 0 := by decide
    rw [this]; norm_num
  · have : ((Scalar.extui (Scalar.cmpi .eq (BitVec.ofNat 32 3) 0#32) : BitVec 32)).toInt = 0 := by decide
    rw [this]; norm_num

/-- A sum that keeps only the lane whose index is the given word is that lane. -/
theorem sum_lane (r : Fin 8 → EReal) (e : Fin 8) :
    ∑ x : Fin 8, Scalar.select (IntOp.cmpi .eq (BitVec.ofNat 32 x.val) (BitVec.ofNat 32 e.val)) (r x) 0 = r e := by
  simp only [select_index]
  rw [Finset.sum_ite_eq' Finset.univ e r, if_pos (Finset.mem_univ _)]

/-- What a point of expert `e` and block `n` adds at token `t` and column `h`. -/
def part (e : Fin 8) (n : ℕ) (x0 : FVec Ideal S2048x8 .f32) (x1 : FVec Ideal S2048x768 .f32) (x2 x3 : FVec Ideal S1x768x512 .f32)
    (x4 : FVec Ideal S1x512x768 .f32) (x5 x6 : FVec Ideal S1x1x512 .f32) (x7 : FVec Ideal S1x1x768 .f32) (t : Fin 2048) (h : Fin 768) : EReal :=
  ((∑ f : Fin 512, act ((∑ k : Fin 768, x1 (ix2 t k) * x2 (ix3 0 k f)) + x5 (ix3 0 0 f))
      ((∑ k : Fin 768, x1 (ix2 t k) * x3 (ix3 0 k f)) + x6 (ix3 0 0 f)) * x4 (ix3 0 f h))
    + firstBlock n * x7 (ix3 0 0 h)) * x0 (ix2 t e)

/-- A step adds its point's part to the sum so far. -/
theorem step_apply (e : Fin 8) (n : ℕ) (hn : n < 4) (x0 : FVec Ideal S2048x8 .f32) (x1 : FVec Ideal S2048x768 .f32) (x2 x3 : FVec Ideal S1x768x512 .f32)
    (x4 : FVec Ideal S1x512x768 .f32) (x5 x6 : FVec Ideal S1x1x512 .f32) (x7 : FVec Ideal S1x1x768 .f32) (acc : FVec Ideal S2048x768 .f32)
    (t : Fin 2048) (h : Fin 768) :
    step (F := Ideal) (BitVec.ofNat 32 e.val) (BitVec.ofNat 32 n) x0 x1 x2 x3 x4 x5 x6 x7 acc (ix2 t h)
      = acc (ix2 t h) + part e n x0 x1 x2 x3 x4 x5 x6 x7 t h := by
  unfold part act
  rw [← first_word n hn, ← sum_lane (fun x => x0 (ix2 t x)) e]
  unfold step
  generalize BitVec.ofNat 32 e.val = a0
  generalize BitVec.ofNat 32 n = a1
  pointwise [k1_pay1, k1_pay3, k1_pay4, k1_pay5, k1_pay6]

/-- A point that resets starts from zero. -/
theorem zero_apply (i : S2048x768.Idx) : k1_pay2 (F := Ideal) i = 0 := by
  pointwise [k1_pay2]

/-! ## The router -/

section
variable (x0 : FVec Ideal S2048x768 .f32) (x1 : FVec Ideal S768x8 .f32) (x2 : FVec Ideal S1x8 .f32) (t : Fin 2048)

/-- Token `t`'s logits as the router computes them. -/
def klg : Fin 8 → EReal := fun e => (∑ k : Fin 768, x0 (ix2 t k) * x1 (ix2 k e)) + x2 (ix2 0 e)

/-- The logits the router forms. -/
theorem pay2_apply (e : Fin 8) : k0_pay2 (F := Ideal) x0 x1 x2 (ix2 t e) = klg x0 x1 x2 t e := by
  unfold klg
  pointwise [k0_pay2]

variable {x0 x1 x2 t} {a b : Fin 8} (hab : IsTop2 (klg x0 x1 x2 t) a b) (hfin : klg x0 x1 x2 t b ≠ ⊥)
include hab

/-- The first maximum is the largest logit. -/
theorem pay3_apply : k0_pay3 (F := Ideal) x0 x1 x2 (ix2 t 0) = klg x0 x1 x2 t a := by
  have h : k0_pay3 (F := Ideal) x0 x1 x2 (ix2 t 0)
      = Finset.fold max (Ideal.ofBits .f32 0xFF800000#32) (fun e : Fin 8 => k0_pay2 (F := Ideal) x0 x1 x2 (ix2 t e)) Finset.univ := by
    pointwise [k0_pay3]
  rw [h]
  simp only [pay2_apply]
  exact fold_max hab.ge_a

/-- The first index is its place. -/
theorem pay4_apply : k0_pay4 (F := Ideal) x0 x1 x2 (ix2 t 0) = BitVec.ofNat 32 a.val := by
  have h : k0_pay4 (F := Ideal) x0 x1 x2 (ix2 t 0)
      = Finset.fold IntOp.minsi 2147483647#32 (fun e : Fin 8 =>
          if k0_pay2 (F := Ideal) x0 x1 x2 (ix2 t e) = k0_pay3 (F := Ideal) x0 x1 x2 (ix2 t 0) then BitVec.ofNat 32 e.val else 8#32) Finset.univ := by
    pointwise [k0_pay4]
  rw [h]
  simp only [pay2_apply, pay3_apply hab]
  exact fold_first (fun e => klg x0 x1 x2 t e = klg x0 x1 x2 t a) a rfl fun j hj => (hab.first_a j hj).ne

/-- The masked logits are the logits with the first place struck out. -/
theorem pay5_apply (e : Fin 8) : k0_pay5 (F := Ideal) x0 x1 x2 (ix2 t e) = strike (klg x0 x1 x2 t) a e := by
  have h : k0_pay5 (F := Ideal) x0 x1 x2 (ix2 t e)
      = Scalar.select (IntOp.cmpi .eq (BitVec.ofNat 32 e.val) (k0_pay4 (F := Ideal) x0 x1 x2 (ix2 t 0))) (Ideal.ofBits .f32 0xFF800000#32)
          (k0_pay2 (F := Ideal) x0 x1 x2 (ix2 t e)) := by
    pointwise [k0_pay5]
  rw [h, pay2_apply, pay4_apply hab, select_index, neg_inf]
  rfl

/-- The second maximum is the largest of the other logits. -/
theorem pay6_apply : k0_pay6 (F := Ideal) x0 x1 x2 (ix2 t 0) = klg x0 x1 x2 t b := by
  have h : k0_pay6 (F := Ideal) x0 x1 x2 (ix2 t 0)
      = Finset.fold max (Ideal.ofBits .f32 0xFF800000#32) (fun e : Fin 8 => k0_pay5 (F := Ideal) x0 x1 x2 (ix2 t e)) Finset.univ := by
    pointwise [k0_pay6]
  rw [h]
  simp only [pay5_apply hab]
  exact (fold_max (strike_ge hab)).trans (strike_b hab)

include hfin in
/-- The second index is its place. -/
theorem pay7_apply : k0_pay7 (F := Ideal) x0 x1 x2 (ix2 t 0) = BitVec.ofNat 32 b.val := by
  have h : k0_pay7 (F := Ideal) x0 x1 x2 (ix2 t 0)
      = Finset.fold IntOp.minsi 2147483647#32 (fun e : Fin 8 =>
          if k0_pay5 (F := Ideal) x0 x1 x2 (ix2 t e) = k0_pay6 (F := Ideal) x0 x1 x2 (ix2 t 0) then BitVec.ofNat 32 e.val else 8#32) Finset.univ := by
    pointwise [k0_pay7]
  rw [h]
  simp only [pay5_apply hab, pay6_apply hab]
  exact fold_first (fun e => strike (klg x0 x1 x2 t) a e = klg x0 x1 x2 t b) b (strike_b hab) fun j hj => strike_first hab hfin j hj

/-- The first weight. -/
theorem pay8_apply : k0_pay8 (F := Ideal) x0 x1 x2 (ix2 t 0) = w1 (klg x0 x1 x2 t a) (klg x0 x1 x2 t b) := by
  have h : k0_pay8 (F := Ideal) x0 x1 x2 (ix2 t 0)
      = Ideal.div 1 (1 + Ideal.exp (k0_pay6 (F := Ideal) x0 x1 x2 (ix2 t 0) - k0_pay3 (F := Ideal) x0 x1 x2 (ix2 t 0))) := by
    pointwise [k0_pay8]
  rw [h, pay6_apply hab, pay3_apply hab]
  rfl

/-- The second weight. -/
theorem pay9_apply : k0_pay9 (F := Ideal) x0 x1 x2 (ix2 t 0) = w2 (klg x0 x1 x2 t a) (klg x0 x1 x2 t b) := by
  have h : k0_pay9 (F := Ideal) x0 x1 x2 (ix2 t 0) = 1 - k0_pay8 (F := Ideal) x0 x1 x2 (ix2 t 0) := by
    pointwise [k0_pay9]
  rw [h, pay8_apply hab]
  rfl

include hfin in
/-- The router's store holds each token's weights. -/
theorem router_apply (e : Fin 8) :
    k0_pay1 (F := Ideal) (iota .tc S2048x8 32 [1] iota_S2048x8_d1_w32) (k0_pay7 (F := Ideal) x0 x1 x2) (k0_pay9 (F := Ideal) x0 x1 x2) (k0_pay10 (F := Ideal) x0 x1 x2)
      (Scalar.ofBits .f32 0x00000000#32) (k0_pay11 (F := Ideal) x0 x1 x2) (ix2 t e) = topW (klg x0 x1 x2 t) a b e := by
  have h : k0_pay1 (F := Ideal) (iota .tc S2048x8 32 [1] iota_S2048x8_d1_w32) (k0_pay7 (F := Ideal) x0 x1 x2) (k0_pay9 (F := Ideal) x0 x1 x2) (k0_pay10 (F := Ideal) x0 x1 x2)
      (Scalar.ofBits .f32 0x00000000#32) (k0_pay11 (F := Ideal) x0 x1 x2) (ix2 t e)
      = Scalar.select (IntOp.cmpi .eq (BitVec.ofNat 32 e.val) (k0_pay4 (F := Ideal) x0 x1 x2 (ix2 t 0))) (k0_pay8 (F := Ideal) x0 x1 x2 (ix2 t 0)) 0
        + Scalar.select (IntOp.cmpi .eq (BitVec.ofNat 32 e.val) (k0_pay7 (F := Ideal) x0 x1 x2 (ix2 t 0))) (k0_pay9 (F := Ideal) x0 x1 x2 (ix2 t 0)) 0 := by
    pointwise [k0_pay1, k0_pay10, k0_pay11]
  rw [h, pay4_apply hab, pay7_apply hab hfin, pay8_apply hab, pay9_apply hab, select_index, select_index]
  rfl

end

end Cert.KernelIdeal.Val

end
-- ==== Proof.KernelFfn.lean ====
/-
  The expert kernel's whole result: entry by entry, the sum of the thirty-two points' parts.
-/
module

public import proofs.«01_k».proof.Proof.KernelPure

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline (Dat Cfg Window)
open MoeSpec

variable (V : (c : Dev nD) → (b : Ref sig .tc) → Buf (Elt Ideal) ((c : Thread nD τ).loc b)) (c : Dev nD)

/-- Point `t` of the grid is block `t % 4` of expert `t / 4`. -/
theorem coords1 : ∀ t : Fin cfg1.N, (grid1.coords t 0).val = t.val / 4 ∧ (grid1.coords t 1).val = t.val % 4 :=
  (by decide +kernel : ∀ t : Fin grid1.N, _)

/-- The blocks each point reads. -/
theorem idx1 : ∀ t : Fin cfg1.N, win1_0.index t = ![0, 0] ∧ win1_1.index t = ![0, 0] ∧ win1_2.index t = ![t.val / 4, 0, t.val % 4]
    ∧ win1_3.index t = ![t.val / 4, 0, t.val % 4] ∧ win1_4.index t = ![t.val / 4, t.val % 4, 0] ∧ win1_5.index t = ![t.val / 4, 0, t.val % 4]
    ∧ win1_6.index t = ![t.val / 4, 0, t.val % 4] ∧ win1_7.index t = ![t.val / 4, 0, 0] ∧ win1_8.index t = ![0, 0] :=
  (by decide +kernel : ∀ t : Fin grid1.N, _)

/-- There are thirty-two points. -/
theorem lt32 (t : Fin cfg1.N) : t.val < 32 := Nat.lt_of_lt_of_eq t.isLt N_1

/-- The part of point `t`, over the blocks it reads. -/
def term (t : Fin cfg1.N) (i : Fin 2048) (h : Fin 768) : EReal :=
  part ⟨t.val / 4, by have := lt32 t; omega⟩ (t.val % 4) (iblk1 V c 0 t) (iblk1 V c 1 t) (iblk1 V c 2 t) (iblk1 V c 3 t)
    (iblk1 V c 4 t) (iblk1 V c 5 t) (iblk1 V c 6 t) (iblk1 V c 7 t) i h

/-- The first point leaves its part. -/
theorem outs_reset (t : Fin cfg1.N) (h0 : t.val % 32 = 0) (j : S2048x768.Idx) :
    outsAt1 V c t.val t.isLt j = 0 + term V c t (j 0) (j 1) := by
  rw [outsAt1_A V c t h0, out_A, (coords1 t).1, (coords1 t).2, eq_ix2 j]
  refine (step_apply ⟨t.val / 4, by have := lt32 t; omega⟩ (t.val % 4) (by omega) _ _ _ _ _ _ _ _ _ _ _).trans ?_
  rw [zero_apply]
  rfl

/-- Every other point adds its part. -/
theorem outs_step (t : Fin cfg1.N) (h0 : ¬t.val % 32 = 0) (j : S2048x768.Idx) :
    outsAt1 V c t.val t.isLt j
      = outsAt1 V c (t.val - 1) (Nat.lt_of_le_of_lt (Nat.sub_le _ _) t.isLt) j + term V c t (j 0) (j 1) := by
  rw [outsAt1_B V c t h0, out_B, (coords1 t).1, (coords1 t).2, eq_ix2 j]
  exact step_apply ⟨t.val / 4, by have := lt32 t; omega⟩ (t.val % 4) (by omega) _ _ _ _ _ _ _ _ _ _ _

/-- One point's part over the whole arrays: the weights `RW`, the tokens `X`, the gate and up halves `WG` and `WU`, the down
    projection `DN` and the biases. -/
def partOf (RW : FVec Ideal S2048x8 .f32) (X : FVec Ideal S2048x768 .f32) (WG WU : FVec Ideal S8x768x2048 .f32) (DN : FVec Ideal S8x2048x768 .f32)
    (BG BU : FVec Ideal S8x1x2048 .f32) (BD : FVec Ideal S8x1x768 .f32) (i : Fin 2048) (h : Fin 768) (n : Fin 32) : EReal :=
  ((∑ f : Fin 512,
      act ((∑ k : Fin 768, X (ix2 i k) * WG (ix3 ⟨n.val / 4, by omega⟩ k ⟨n.val % 4 * 512 + f.val, by omega⟩)) + BG (ix3 ⟨n.val / 4, by omega⟩ 0 ⟨n.val % 4 * 512 + f.val, by omega⟩))
        ((∑ k : Fin 768, X (ix2 i k) * WU (ix3 ⟨n.val / 4, by omega⟩ k ⟨n.val % 4 * 512 + f.val, by omega⟩)) + BU (ix3 ⟨n.val / 4, by omega⟩ 0 ⟨n.val % 4 * 512 + f.val, by omega⟩))
      * DN (ix3 ⟨n.val / 4, by omega⟩ ⟨n.val % 4 * 512 + f.val, by omega⟩ h))
    + firstBlock (n.val % 4) * BD (ix3 ⟨n.val / 4, by omega⟩ 0 h)) * RW (ix2 i ⟨n.val / 4, by omega⟩)

/-- A point's part over its blocks is its part over the arrays they are cut from. -/
theorem term_eq (t : Fin cfg1.N) (i : Fin 2048) (h : Fin 768) :
    term V c t i h = partOf (V c main_v3) (V c main_v0) (V c main_v6) (V c main_v8) (V c main_arg5) (V c main_v11) (V c main_v13) (V c main_v14) i h
      ⟨t.val, lt32 t⟩ := by
  have hb := lt32 t
  unfold term part partOf
  blk_point [iblk1, idx1 t]

/-- The expert kernel's result, entry by entry. -/
theorem ffn_array : (dat1 V c).arrAt 8 cfg1.N = fun j : S2048x768.Idx => ∑ n : Fin 32,
    partOf (V c main_v3) (V c main_v0) (V c main_v6) (V c main_v8) (V c main_arg5) (V c main_v11) (V c main_v13) (V c main_v14) (j 0) (j 1) n := by
  refine (dat1 V c).arrAt_eq_of_covers 8 _ (by decide +kernel) fun t hf y => ?_
  blk_simp
  rw [after1_8, Pipeline.eq_sum_fin_of_reset_step_apply_of_flush (fun n h => outsAt1 V c n h) 32 (fun _ => 0) (fun t j => term V c t (j 0) (j 1))
    (fun t h j => outs_reset V c t h j) (fun t h j => outs_step V c t h j) t ((flush1_8 t).mp hf) _, zero_add]
  refine Fin.sum_fin_congr fun s => ?_
  have hb := lt32 t
  refine (term_eq V c _ _ _).trans ?_
  have e : ∀ G : S2048x768.Idx → EReal, G ((win1_8.blk t).view.emb y) = G y := fun G => by blk_ext [idx1 t]
  have e2 : (⟨32 * (t.val / 32) + s.val, by omega⟩ : Fin 32) = s := Fin.ext (by show 32 * (t.val / 32) + s.val = s.val; omega)
  refine Eq.trans ?_ (e fun j => partOf (V c main_v3) (V c main_v0) (V c main_v6) (V c main_v8) (V c main_arg5) (V c main_v11) (V c main_v13)
    (V c main_v14) (j 0) (j 1) s).symm
  exact congrArg _ e2

end Cert.KernelIdeal.Val

end
-- ==== Proof.KernelHost.lean ====
/-
  What the two kernels read: the arrays the host operations cut from the arguments, entry by entry.
-/
module

public import proofs.«01_k».proof.Proof.KernelFfn

@[expose] public section

set_option maxRecDepth 16384

noncomputable section

namespace Cert.KernelIdeal.Val

open Cert.KernelIdeal Cert.KernelIdeal.Gen
open Idealize.ShloMosaic Idealize.ShloMosaic.TcCoe
open MoeSpec

/-! ### The host's reshapes, slices and transposition, entry by entry -/

/-- Dropping the batch axis. -/
theorem drop_batch (x : FVec Ideal S1x2048x768 .f32) (t : Fin 2048) (k : Fin 768) :
    shapeCast S2048x768 x shapeCasts_S1x2048x768_S2048x768 (ix2 t k) = x (ix3 0 t k) := by
  pointwise []

/-- Putting the batch axis back. -/
theorem add_batch (x : FVec Ideal S2048x768 .f32) (t : Fin 2048) (k : Fin 768) :
    shapeCast S1x2048x768 x shapeCasts_S2048x768_S1x2048x768 (ix3 0 t k) = x (ix2 t k) := by
  pointwise []

/-- Transposing the router's matrix. -/
theorem flip (x : FVec Ideal S8x768 .f32) (k : Fin 768) (e : Fin 8) :
    transpose S768x8 [1, 0] x transposes_S8x768_S768x8_1_0 (ix2 k e) = x (ix2 e k) := by
  pointwise []

/-- A vector of eight as one row. -/
theorem as_row (x : FVec Ideal S8 .f32) (e : Fin 8) : shapeCast S1x8 x shapeCasts_S8_S1x8 (ix2 0 e) = x (ix1 e) := by
  pointwise []

/-- One row per expert. -/
theorem as_rows (x : FVec Ideal S8x768 .f32) (e : Fin 8) (h : Fin 768) : shapeCast S8x1x768 x shapeCasts_S8x768_S8x1x768 (ix3 e 0 h) = x (ix2 e h) := by
  pointwise []

/-- The even columns of the first projection. -/
theorem even_cols (x : FVec Ideal S8x768x4096 .f32) (e : Fin 8) (k : Fin 768) (f : Fin 2048) :
    shapeCast S8x768x2048 (extractStridedSlice S8x768x2048x1 ![0, 0, 0, 0] (shapeCast S8x768x2048x2 x shapeCasts_S8x768x4096_S8x768x2048x2)
      slices_S8x768x2048x2_S8x768x2048x1_0_0_0_0) shapeCasts_S8x768x2048x1_S8x768x2048 (ix3 e k f) = x (ix3 e k ⟨f.val * 2, by omega⟩) := by
  pointwise []

/-- The odd columns of the first projection. -/
theorem odd_cols (x : FVec Ideal S8x768x4096 .f32) (e : Fin 8) (k : Fin 768) (f : Fin 2048) :
    shapeCast S8x768x2048 (extractStridedSlice S8x768x2048x1 ![0, 0, 0, 1] (shapeCast S8x768x2048x2 x shapeCasts_S8x768x4096_S8x768x2048x2)
      slices_S8x768x2048x2_S8x768x2048x1_0_0_0_1) shapeCasts_S8x768x2048x1_S8x768x2048 (ix3 e k f) = x (ix3 e k ⟨f.val * 2 + 1, by omega⟩) := by
  pointwise []

/-- The even entries of the first projection's bias. -/
theorem even_bias (x : FVec Ideal S8x4096 .f32) (e : Fin 8) (f : Fin 2048) :
    shapeCast S8x1x2048 (extractStridedSlice S8x1x2048x1 ![0, 0, 0, 0] (shapeCast S8x1x2048x2 x shapeCasts_S8x4096_S8x1x2048x2)
      slices_S8x1x2048x2_S8x1x2048x1_0_0_0_0) shapeCasts_S8x1x2048x1_S8x1x2048 (ix3 e 0 f) = x (ix2 e ⟨f.val * 2, by omega⟩) := by
  pointwise []

/-- The odd entries of the first projection's bias. -/
theorem odd_bias (x : FVec Ideal S8x4096 .f32) (e : Fin 8) (f : Fin 2048) :
    shapeCast S8x1x2048 (extractStridedSlice S8x1x2048x1 ![0, 0, 0, 1] (shapeCast S8x1x2048x2 x shapeCasts_S8x4096_S8x1x2048x2)
      slices_S8x1x2048x2_S8x1x2048x1_0_0_0_1) shapeCasts_S8x1x2048x1_S8x1x2048 (ix3 e 0 f) = x (ix2 e ⟨f.val * 2 + 1, by omega⟩) := by
  pointwise []

/-! ### The arrays the kernels read -/

variable (m : (ℓ : Loc nD τ sig) → Buf (Elt Ideal) ℓ) (ρ : Dev nD → PrngReg) (c : Dev nD)

/-- Before the router: the tokens with the batch axis dropped. -/
theorem v0_eq : W1 m ρ c (Proc.devRef .tc main_v0) = shapeCast S2048x768 (m ((c : Thread nD τ).loc main_arg0)) shapeCasts_S1x2048x768_S2048x768 := by
  show StableHlo.after hostOps0 (W0 m ρ c) (Proc.devRef .tc main_v0) = _
  after_results
  rfl

/-- Before the router: its matrix transposed. -/
theorem v1_eq : W1 m ρ c (Proc.devRef .tc main_v1) = transpose S768x8 [1, 0] (m ((c : Thread nD τ).loc main_arg1)) transposes_S8x768_S768x8_1_0 := by
  show StableHlo.after hostOps0 (W0 m ρ c) (Proc.devRef .tc main_v1) = _
  after_results

/-- Before the router: its bias as one row. -/
theorem v2_eq : W1 m ρ c (Proc.devRef .tc main_v2) = shapeCast S1x8 (m ((c : Thread nD τ).loc main_arg2)) shapeCasts_S8_S1x8 := by
  show StableHlo.after hostOps0 (W0 m ρ c) (Proc.devRef .tc main_v2) = _
  after_results
  rfl

/-- Before the experts: the gate half of the first projection. -/
theorem v6_eq : W3 m ρ c (Proc.devRef .tc main_v6) = shapeCast S8x768x2048 (extractStridedSlice S8x768x2048x1 ![0, 0, 0, 0] (shapeCast S8x768x2048x2 (W2 m ρ c (Proc.devRef .tc main_arg3)) shapeCasts_S8x768x4096_S8x768x2048x2) slices_S8x768x2048x2_S8x768x2048x1_0_0_0_0) shapeCasts_S8x768x2048x1_S8x768x2048 := by
  show StableHlo.after hostOps1 (W2 m ρ c) (Proc.devRef .tc main_v6) = _
  after_results
  rfl

/-- Before the experts: the up half of the first projection. -/
theorem v8_eq : W3 m ρ c (Proc.devRef .tc main_v8) = shapeCast S8x768x2048 (extractStridedSlice S8x768x2048x1 ![0, 0, 0, 1] (shapeCast S8x768x2048x2 (W2 m ρ c (Proc.devRef .tc main_arg3)) shapeCasts_S8x768x4096_S8x768x2048x2) slices_S8x768x2048x2_S8x768x2048x1_0_0_0_1) shapeCasts_S8x768x2048x1_S8x768x2048 := by
  show StableHlo.after hostOps1 (W2 m ρ c) (Proc.devRef .tc main_v8) = _
  after_results
  rfl

/-- Before the experts: the gate half of its bias. -/
theorem v11_eq : W3 m ρ c (Proc.devRef .tc main_v11) = shapeCast S8x1x2048 (extractStridedSlice S8x1x2048x1 ![0, 0, 0, 0] (shapeCast S8x1x2048x2 (W2 m ρ c (Proc.devRef .tc main_arg4)) shapeCasts_S8x4096_S8x1x2048x2) slices_S8x1x2048x2_S8x1x2048x1_0_0_0_0) shapeCasts_S8x1x2048x1_S8x1x2048 := by
  show StableHlo.after hostOps1 (W2 m ρ c) (Proc.devRef .tc main_v11) = _
  after_results
  rfl

/-- Before the experts: the up half of its bias. -/
theorem v13_eq : W3 m ρ c (Proc.devRef .tc main_v13) = shapeCast S8x1x2048 (extractStridedSlice S8x1x2048x1 ![0, 0, 0, 1] (shapeCast S8x1x2048x2 (W2 m ρ c (Proc.devRef .tc main_arg4)) shapeCasts_S8x4096_S8x1x2048x2) slices_S8x1x2048x2_S8x1x2048x1_0_0_0_1) shapeCasts_S8x1x2048x1_S8x1x2048 := by
  show StableHlo.after hostOps1 (W2 m ρ c) (Proc.devRef .tc main_v13) = _
  after_results
  rfl

/-- Before the experts: the second projection's bias, one row per expert. -/
theorem v14_eq : W3 m ρ c (Proc.devRef .tc main_v14) = shapeCast S8x1x768 (W2 m ρ c (Proc.devRef .tc main_arg6)) shapeCasts_S8x768_S8x1x768 := by
  show StableHlo.after hostOps1 (W2 m ρ c) (Proc.devRef .tc main_v14) = _
  after_results
  rfl

/-- At the end: the experts' result with the batch axis put back. -/
theorem v16_eq : W5 m ρ c (Proc.devRef .tc main_v16) = shapeCast S1x2048x768 (W4 m ρ c (Proc.devRef .tc main_v15)) shapeCasts_S2048x768_S1x2048x768 := by
  show StableHlo.after hostOps2 (W4 m ρ c) (Proc.devRef .tc main_v16) = _
  after_results
  rfl

/-- The tokens are still there when the experts run. -/
theorem v0_kept : W3 m ρ c (Proc.devRef .tc main_v0) = W1 m ρ c (Proc.devRef .tc main_v0) :=
  (W3_of m ρ c main_v0 (by decide)).trans (W2_of m ρ c main_v0 (by decide +kernel))

/-- The router's table is still there when the experts run. -/
theorem v3_kept : W3 m ρ c (Proc.devRef .tc main_v3) = (dat0 (V1 m ρ) c).arrAt 3 cfg0.N :=
  (W3_of m ρ c main_v3 (by decide)).trans (W2_arr m ρ c 3)

/-! ### The router's whole table -/

variable (V : (c : Dev nD) → (b : Ref sig .tc) → Buf (Elt Ideal) ((c : Thread nD τ).loc b))

/-- The router's one point reads and writes whole arrays. -/
theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

/-- The table the router leaves. -/
def table (x0 : FVec Ideal S2048x768 .f32) (x1 : FVec Ideal S768x8 .f32) (x2 : FVec Ideal S1x8 .f32) : FVec Ideal S2048x8 .f32 :=
  k0_pay1 (F := Ideal) (iota .tc S2048x8 32 [1] iota_S2048x8_d1_w32) (k0_pay7 (F := Ideal) x0 x1 x2) (k0_pay9 (F := Ideal) x0 x1 x2)
    (k0_pay10 (F := Ideal) x0 x1 x2) (Scalar.ofBits .f32 0x00000000#32) (k0_pay11 (F := Ideal) x0 x1 x2)

/-- The router's one store covers its block, so the block ends as that table. -/
theorem out0_eq (x0 : FVec Ideal S2048x768 .f32) (x1 : FVec Ideal S768x8 .f32) (x2 : FVec Ideal S1x8 .f32) : out0_3 (F := Ideal) x0 x1 x2 = table x0 x1 x2 := by
  unfold table
  frame_out

/-- The router's whole result is the table over the arrays it reads. -/
theorem table_array : (dat0 V c).arrAt 3 cfg0.N = table (V c main_v0) (V c main_v1) (V c main_v2) := by
  refine (dat0 V c).arrAt_eq_of_covers 3 _ (by decide +kernel) fun t hf y => ?_
  blk_simp
  rw [after0_3, out0_eq]
  have e : ∀ G : S2048x8.Idx → EReal, G ((win0_3.blk t).view.emb y) = G y := fun G => by blk_ext [idx0 t]
  refine Eq.trans ?_ (e (table (V c main_v0) (V c main_v1) (V c main_v2))).symm
  have e0 : iblk0 V c 0 t = V c main_v0 := funext fun y => by blk_point [iblk0, idx0 t]
  have e1 : iblk0 V c 1 t = V c main_v1 := funext fun y => by blk_point [iblk0, idx0 t]
  have e2 : iblk0 V c 2 t = V c main_v2 := funext fun y => by blk_point [iblk0, idx0 t]
  rw [e0, e1, e2]

end Cert.KernelIdeal.Val

end
-- ==== Proof.Top2.lean ====
/-
  The stable descending sort of eight logits puts the two largest first, the smaller place winning a tie.
-/
module

public import proofs.«01_k».proof.Proof.Spec
public import Idealize.ShloMosaic.Lib.SortFacts

@[expose] public section

set_option maxRecDepth 16384

noncomputable section

namespace MoeSpec

open Idealize.ShloMosaic

/-- Place `i` goes before place `j`: its logit is larger, or equal at a smaller place. -/
def Before (l : Fin 8 → EReal) (i j : Fin 8) : Prop := l j < l i ∨ (l i = l j ∧ i < j)

/-- Inserting a place smaller than all those of an ordered list keeps it ordered. -/
theorem insert_ordered (l : Fin 8 → EReal) (R : Fin 8 → Fin 8 → Bool) (hR : ∀ i j, R i j = true ↔ l j < l i) (a : Fin 8) (L : List (Fin 8))
    (hL : L.Pairwise (Before l)) (ha : ∀ i ∈ L, a < i) : (insertBefore R a L).Pairwise (Before l) := by
  induction L with
  | nil => exact List.pairwise_singleton _ _
  | cons b m ih =>
    rw [List.pairwise_cons] at hL
    have hm : ∀ i ∈ m, a < i := fun i hi => ha i (List.mem_cons_of_mem _ hi)
    unfold insertBefore
    by_cases h : R b a = true
    · rw [if_pos h]
      refine List.pairwise_cons.mpr ⟨fun i hi => ?_, ih hL.2 hm⟩
      rcases List.mem_cons.mp ((perm_insertBefore R a m).mem_iff.mp hi) with rfl | hi'
      · exact .inl ((hR b i).mp h)
      · exact hL.1 i hi'
    · rw [if_neg h]
      have hba : l b ≤ l a := not_lt.mp fun hlt => h ((hR b a).mpr hlt)
      have hab : a < b := ha b List.mem_cons_self
      refine List.pairwise_cons.mpr ⟨fun i hi => ?_, List.pairwise_cons.mpr hL⟩
      have hai := ha i hi
      have hib : l i ≤ l b := by
        rcases List.mem_cons.mp hi with rfl | hi'
        · exact le_rfl
        · rcases hL.1 i hi' with hlt | ⟨heq, -⟩
          · exact hlt.le
          · exact heq.ge
      rcases (hib.trans hba).lt_or_eq with hlt | heq
      · exact .inl hlt
      · exact .inr ⟨heq.symm, hai⟩

/-- The stable sort of an increasing list of places is ordered. -/
theorem sort_ordered (l : Fin 8 → EReal) (R : Fin 8 → Fin 8 → Bool) (hR : ∀ i j, R i j = true ↔ l j < l i) (L : List (Fin 8))
    (hL : L.Pairwise (· < ·)) : (stableSort R L).Pairwise (Before l) := by
  induction L with
  | nil => exact List.Pairwise.nil
  | cons a m ih =>
    rw [List.pairwise_cons] at hL
    unfold stableSort
    exact insert_ordered l R hR a _ (ih hL.2) fun i hi => hL.1 i ((perm_stableSort R m).mem_iff.mp hi)

/-- The sorted places, read in order, are ordered. -/
theorem sorted_before (l : Fin 8 → EReal) (R : Fin 8 → Fin 8 → Bool) (hR : ∀ i j, R i j = true ↔ l j < l i) (p q : Fin 8) (hpq : p < q) :
    Before l (sortedFrom R p) (sortedFrom R q) := by
  have h : ∀ a b : Fin (sortPositions 8 R).length, a < b → Before l ((sortPositions 8 R).get a) ((sortPositions 8 R).get b) :=
    List.pairwise_iff_get.mp (sort_ordered l R hR (List.finRange 8) (List.pairwise_lt_finRange 8))
  unfold sortedFrom
  exact h _ _ (by simp only [Fin.lt_def, Fin.val_cast]; exact hpq)

/-- The first two places of the stable descending sort are the two largest logits'. -/
theorem sorted_top2 (l : Fin 8 → EReal) (R : Fin 8 → Fin 8 → Bool) (hR : ∀ i j, R i j = true ↔ l j < l i) :
    IsTop2 l (sortedFrom R 0) (sortedFrom R 1) := by
  have hle : ∀ {i j}, Before l i j → l j ≤ l i := fun h => h.elim le_of_lt fun h => h.1.ge
  have hlt : ∀ {i j}, Before l i j → j < i → l j < l i := fun h hji => h.elim id fun h => absurd h.2 hji.asymm
  have hA : ∀ j, j ≠ sortedFrom R 0 → Before l (sortedFrom R 0) j := fun j hj => by
    obtain ⟨p, rfl⟩ := sortedFrom_surjective R j
    exact sorted_before l R hR 0 p (Fin.pos_of_ne_zero fun h => hj (by rw [h]))
  have hB : ∀ j, j ≠ sortedFrom R 0 → j ≠ sortedFrom R 1 → Before l (sortedFrom R 1) j := fun j hj hj' => by
    obtain ⟨p, rfl⟩ := sortedFrom_surjective R j
    refine sorted_before l R hR 1 p ?_
    have h0 : p ≠ 0 := fun h => hj (by rw [h])
    have h1 : p ≠ 1 := fun h => hj' (by rw [h])
    have h0' : p.val ≠ 0 := fun h => h0 (Fin.ext h)
    have h1' : p.val ≠ 1 := fun h => h1 (Fin.ext h)
    exact Fin.lt_def.mpr (by show 1 < p.val; omega)
  refine ⟨fun h => absurd (sortedFrom_injective R h) (by decide), fun j => ?_, fun j hj => hlt (hA j hj.ne) hj, fun j hj => ?_,
    fun j hj hlt' => hlt (hB j hj hlt'.ne) hlt'⟩
  · by_cases h : j = sortedFrom R 0
    · rw [h]
    · exact hle (hA j h)
  · by_cases h : j = sortedFrom R 1
    · rw [h]
    · exact hle (hB j hj h)

end MoeSpec

end
-- ==== Proof.RefRouter.lean ====
/-
  The reference's routing: its two chosen experts are the two largest logits' places, and its table of weights holds
  each chosen expert's softmax weight and zero elsewhere.
-/
module

public import proofs.«01_k».proof.Proof.Gen.ReferenceIdeal.Read
public import proofs.«01_k».proof.Proof.Top2
public import Idealize.ShloMosaic.Lib.Pointwise
public import Idealize.ShloMosaic.Lib.ScatterToDense.RefScatter

@[expose] public section

set_option maxRecDepth 16384

noncomputable section

namespace Cert.ReferenceIdeal.Val

open Cert.ReferenceIdeal Cert.ReferenceIdeal.Gen
open Idealize.ShloMosaic Idealize.ShloMosaic.TcCoe
open MoeSpec
open Cert.ReferenceIdeal.Read

/-! ## The two largest of a row -/

/-- Along the second axis an index keeps its row. -/
theorem along_row (j : S2048x8.Idx) (k : Fin 8) : j.along (1 : Fin 2) k = ix2 (j 0 : Fin 2048) k := by
  funext a
  fin_cases a
  · rfl
  · rfl

section
variable {α : Type} (gt : α → α → BitVec 1) (x : S2048x8.Idx → α) (h : S2048x8.Slices (fun _ => 0) S2048x2) (t : Fin 2048) (p : Fin 2)

/-- The place the sort of row `t` puts at `p`. -/
def place : Fin 8 := sortedFrom (fun k k' : Fin 8 => gt (x (ix2 t k)) (x (ix2 t k')) == 1#1) ⟨p.val, by omega⟩

/-- Reading the two kept columns of an array is reading the array. -/
theorem keep_two {β : Type} (y : S2048x8.Idx → β) :
    extractStridedSlice S2048x2 (fun _ => 0) y h (ix2 t p) = y (ix2 t ⟨p.val, by omega⟩) := by
  refine extractStridedSlice_apply (fun _ => 0) y h (ix2 t p) _ fun a => ?_
  match a with
  | ⟨0, _⟩ => exact (Nat.zero_add _).symm
  | ⟨1, _⟩ => exact (Nat.zero_add _).symm

/-- The kept values are the row's values at the sorted places. -/
theorem topK_value : (Host.topK S2048x2 1 gt x h).1 (ix2 t p) = x (ix2 t (place gt x t p)) := by
  unfold Host.topK
  dsimp only
  rw [keep_two]
  unfold Host.sort2
  split
  · dsimp only
    refine congrArg x ((along_row _ _).trans ?_)
    refine congrArg (ix2 t) ?_
    unfold place
    refine congrArg (fun R => sortedFrom R _) (funext fun k => funext fun k' => ?_)
    exact congrArg₂ (fun u v => gt (x u) (x v) == 1#1) (along_row _ k) (along_row _ k')
  · rename_i hd; exact absurd (show 1 < S2048x8.rank by decide) hd

/-- The kept indices are the sorted places. -/
theorem topK_index : (Host.topK S2048x2 1 gt x h).2 (ix2 t p) = BitVec.ofNat 32 (place gt x t p).val := by
  unfold Host.topK
  dsimp only
  rw [keep_two]
  unfold Host.sort2
  split
  · dsimp only
    refine (congrArg (fun i : S2048x8.Idx => if hd : 1 < S2048x8.rank then iotaInDim S2048x8 32 ⟨1, hd⟩ i else 0#32)
      ((along_row _ _).trans (congrArg (ix2 t) (a₂ := place gt x t p) ?_))).trans ?_
    · unfold place
      refine congrArg (fun R => sortedFrom R _) (funext fun k => funext fun k' => ?_)
      exact congrArg₂ (fun u v => gt (x u) (x v) == 1#1) (along_row _ k) (along_row _ k')
    · rfl
  · rename_i hd; exact absurd (show 1 < S2048x8.rank by decide) hd
end

section
variable (x0 : FVec Ideal S1x2048x768 .f32) (x1 : FVec Ideal S8x768 .f32) (x2 : FVec Ideal S8 .f32) (t : Fin 2048)

/-- Token `t`'s logits as the reference computes them. -/
def rlg : Fin 8 → EReal := fun e => (∑ k : Fin 768, x0 (ix3 0 t k) * x1 (ix2 e k)) + x2 (ix1 e)

/-- The reference's logits. -/
theorem v5_row (e : Fin 8) : val_main_v5 (F := Ideal) x0 x1 x2 (ix2 t e) = rlg x0 x1 x2 t e := by
  unfold rlg
  pointwise [val_main_v5, val_main_v4, val_main_v3, val_main_v2, val_main_v1, val_main_v0]

/-- The order the reference sorts token `t`'s experts by. -/
def ord (k k' : Fin 8) : Bool := FloatOps.cmpfTotal (F := Ideal) (φ := .f32) .gt (val_main_v5 (F := Ideal) x0 x1 x2 (ix2 t k)) (val_main_v5 (F := Ideal) x0 x1 x2 (ix2 t k')) == 1#1

/-- It is the descending order of the logits. -/
theorem ord_iff (k k' : Fin 8) : ord x0 x1 x2 t k k' = true ↔ rlg x0 x1 x2 t k' < rlg x0 x1 x2 t k := by
  unfold ord
  rw [v5_row, v5_row, Ideal.cmpfTotal_def]
  show (BitVec.ofBool (decide _) == 1#1) = true ↔ _
  by_cases h : rlg x0 x1 x2 t k' < rlg x0 x1 x2 t k
  · rw [decide_eq_true h]; exact iff_of_true rfl h
  · rw [decide_eq_false h]; exact iff_of_false (by decide) h

/-- The first expert the reference chooses for token `t`. -/
def ra : Fin 8 := sortedFrom (ord x0 x1 x2 t) 0
/-- The second. -/
def rb : Fin 8 := sortedFrom (ord x0 x1 x2 t) 1

/-- They are the two largest logits' places. -/
theorem top2 : IsTop2 (rlg x0 x1 x2 t) (ra x0 x1 x2 t) (rb x0 x1 x2 t) := sorted_top2 _ _ (ord_iff x0 x1 x2 t)

/-- The values kept are the logits of the experts kept. -/
theorem values_row (p : Fin 2) : val_main_values (F := Ideal) x0 x1 x2 (ix2 t p) = rlg x0 x1 x2 t (sortedFrom (ord x0 x1 x2 t) ⟨p.val, by omega⟩) := by
  unfold val_main_values
  rw [topK_value, v5_row]
  rfl

/-- The indices kept are the experts kept. -/
theorem indices_row (p : Fin 2) : val_main_indices (F := Ideal) x0 x1 x2 (ix2 t p) = BitVec.ofNat 32 (sortedFrom (ord x0 x1 x2 t) ⟨p.val, by omega⟩).val := by
  unfold val_main_indices
  rw [topK_index]
  rfl

/-- The two values kept for token `t` are its two largest logits. -/
theorem values_0 : val_main_values (F := Ideal) x0 x1 x2 (ix2 t 0) = rlg x0 x1 x2 t (ra x0 x1 x2 t) := values_row x0 x1 x2 t 0
/-- The second value kept. -/
theorem values_1 : val_main_values (F := Ideal) x0 x1 x2 (ix2 t 1) = rlg x0 x1 x2 t (rb x0 x1 x2 t) := values_row x0 x1 x2 t 1

/-- The maximum the softmax subtracts. -/
theorem v10_row (p : Fin 2) : val_main_v10 (F := Ideal) x0 x1 x2 (ix2 t p) = rlg x0 x1 x2 t (ra x0 x1 x2 t) := by
  have h : val_main_v10 (F := Ideal) x0 x1 x2 (ix2 t p)
      = max (Ideal.ofBits .f32 0xFF800000#32) (Finset.fold max (Ideal.ofBits .f32 0xFF800000#32) (fun q : Fin 2 => val_main_values (F := Ideal) x0 x1 x2 (ix2 t q)) Finset.univ) := by
    pointwise [val_main_v10, val_main_v9, val_main_v8, val_main_v7, val_main_v6, val_main_cst, val_main_cst_0]
  rw [h, neg_inf, max_eq_right bot_le]
  refine le_antisymm ?_ ?_
  · rw [Finset.fold_max_le]
    refine ⟨bot_le, fun q _ => ?_⟩
    rw [values_row]
    exact (top2 x0 x1 x2 t).ge_a _
  · rw [Finset.le_fold_max]
    exact .inr ⟨0, Finset.mem_univ _, (values_0 x0 x1 x2 t).ge⟩

/-- The softmax of the two kept values. -/
theorem v16_row (p : Fin 2) : val_main_v16 (F := Ideal) x0 x1 x2 (ix2 t p)
    = Ideal.div (Ideal.exp (val_main_values (F := Ideal) x0 x1 x2 (ix2 t p) - rlg x0 x1 x2 t (ra x0 x1 x2 t)))
        (Ideal.exp (rlg x0 x1 x2 t (ra x0 x1 x2 t) - rlg x0 x1 x2 t (ra x0 x1 x2 t))
          + Ideal.exp (rlg x0 x1 x2 t (rb x0 x1 x2 t) - rlg x0 x1 x2 t (ra x0 x1 x2 t))) := by
  have h : val_main_v16 (F := Ideal) x0 x1 x2 (ix2 t p)
      = Ideal.div (Ideal.exp (val_main_values (F := Ideal) x0 x1 x2 (ix2 t p) - val_main_v10 (F := Ideal) x0 x1 x2 (ix2 t p)))
        (∑ q : Fin 2, Ideal.exp (val_main_values (F := Ideal) x0 x1 x2 (ix2 t q) - val_main_v10 (F := Ideal) x0 x1 x2 (ix2 t q))) := by
    pointwise [val_main_v16, val_main_v15, val_main_v14, val_main_v13, val_main_v12, val_main_v11, val_main_cst_1]
  rw [h, Fin.sum_univ_two, v10_row, v10_row, v10_row, values_0, values_1]

variable (hfin : ∀ e, rlg x0 x1 x2 t e ≠ ⊤ ∧ rlg x0 x1 x2 t e ≠ ⊥)
include hfin

/-- The first weight. -/
theorem v16_0 : val_main_v16 (F := Ideal) x0 x1 x2 (ix2 t 0) = w1 (rlg x0 x1 x2 t (ra x0 x1 x2 t)) (rlg x0 x1 x2 t (rb x0 x1 x2 t)) := by
  rw [v16_row, values_0, ← EReal.coe_toReal (hfin (ra x0 x1 x2 t)).1 (hfin (ra x0 x1 x2 t)).2,
    ← EReal.coe_toReal (hfin (rb x0 x1 x2 t)).1 (hfin (rb x0 x1 x2 t)).2]
  exact w1_softmax _ _

/-- The second weight. -/
theorem v16_1 : val_main_v16 (F := Ideal) x0 x1 x2 (ix2 t 1) = w2 (rlg x0 x1 x2 t (ra x0 x1 x2 t)) (rlg x0 x1 x2 t (rb x0 x1 x2 t)) := by
  rw [v16_row, values_1, ← EReal.coe_toReal (hfin (ra x0 x1 x2 t)).1 (hfin (ra x0 x1 x2 t)).2,
    ← EReal.coe_toReal (hfin (rb x0 x1 x2 t)).1 (hfin (rb x0 x1 x2 t)).2]
  exact w2_softmax _ _

omit hfin in
/-- The first index word of an update is its token. -/
theorem word_tok (p : Fin 2) : val_main_v33 (F := Ideal) x0 x1 x2 (ix3 t p 0) = BitVec.ofNat 32 t.val := by
  have h : val_main_v33 (F := Ideal) x0 x1 x2 (ix3 t p 0)
      = Scalar.select (IntOp.cmpi .slt (BitVec.ofNat 32 t.val) 0#32) (IntOp.addi (BitVec.ofNat 32 t.val) 2048#32) (BitVec.ofNat 32 t.val) := by
    pointwise [val_main_v33, val_main_v31, val_main_v30, val_main_v24, val_main_v23, val_main_v22, val_main_v21, val_main_v20, val_main_v19, val_main_v18,
      val_main_c, val_main_c_3]
  rw [h]
  exact Routing.wrap_of_lt _ _ (by rw [BitVec.toNat_ofNat]; omega)

omit hfin in
/-- The second is the chosen expert. -/
theorem word_exp (p : Fin 2) : val_main_v33 (F := Ideal) x0 x1 x2 (ix3 t p 1) = val_main_indices (F := Ideal) x0 x1 x2 (ix2 t p) := by
  have h : val_main_v33 (F := Ideal) x0 x1 x2 (ix3 t p 1)
      = Scalar.select (IntOp.cmpi .slt (val_main_indices (F := Ideal) x0 x1 x2 (ix2 t p)) 0#32) (IntOp.addi (val_main_indices (F := Ideal) x0 x1 x2 (ix2 t p)) 8#32)
          (val_main_indices (F := Ideal) x0 x1 x2 (ix2 t p)) := by
    pointwise [val_main_v33, val_main_v32, val_main_v29, val_main_v28, val_main_v27, val_main_v26, val_main_v25, val_main_c_4, val_main_c_5]
  rw [h, indices_row]
  exact Routing.wrap_of_lt _ _ (by rw [BitVec.toNat_ofNat]; omega)

/-- The reference's table of weights, entry by entry. -/
theorem v34_row (e : Fin 8) : val_main_v34 (F := Ideal) x0 x1 x2 (ix2 t e) = topW (rlg x0 x1 x2 t) (ra x0 x1 x2 t) (rb x0 x1 x2 t) e := by
  have h := ScatterToDense.scatter_eq_GS (T := 2048) (C := 8) (K := 2) scatter_S2048x8_S2048x2x2_S2048x2_n_01_01_2 rfl rfl rfl (by norm_num) (by norm_num)
    (val_main_v17 (F := Ideal)) (val_main_v33 (F := Ideal) x0 x1 x2) (val_main_v16 (F := Ideal) x0 x1 x2)
    (fun i k => val_main_v33 (F := Ideal) x0 x1 x2 (ix3 i ⟨k % 2, by omega⟩ 1)) (fun i k => val_main_v16 (F := Ideal) x0 x1 x2 (ix2 i ⟨k % 2, by omega⟩))
    (fun i k => word_tok x0 x1 x2 i k)
    (fun i k => by have e : (⟨k.val % 2, by omega⟩ : Fin 2) = k := Fin.ext (by show k.val % 2 = k.val; omega); rw [e]; rfl)
    (fun i k => by have e : (⟨k.val % 2, by omega⟩ : Fin 2) = k := Fin.ext (by show k.val % 2 = k.val; omega); rw [e]; rfl) t e
  refine h.trans ?_
  have hz : val_main_v17 (F := Ideal) (ix2 t e) = 0 := by pointwise [val_main_v17, val_main_cst_2]
  have hk0 : val_main_v33 (F := Ideal) x0 x1 x2 (ix3 t 0 1) = BitVec.ofNat 32 (ra x0 x1 x2 t).val := (word_exp x0 x1 x2 t 0).trans (indices_row x0 x1 x2 t 0)
  have hk1 : val_main_v33 (F := Ideal) x0 x1 x2 (ix3 t 1 1) = BitVec.ofNat 32 (rb x0 x1 x2 t).val := (word_exp x0 x1 x2 t 1).trans (indices_row x0 x1 x2 t 1)
  have hw : ∀ a : Fin 8, (e.val = (BitVec.ofNat 32 a.val).toNat) ↔ e = a := fun a => by
    rw [BitVec.toNat_ofNat, Nat.mod_eq_of_lt (by omega)]; exact Fin.ext_iff.symm
  rw [ScatterToDense.GS_succ, ScatterToDense.GS_succ, ScatterToDense.GS_zero]
  show (if e.val = (val_main_v33 (F := Ideal) x0 x1 x2 (ix3 t 1 1)).toNat then val_main_v16 (F := Ideal) x0 x1 x2 (ix2 t 1)
    else if e.val = (val_main_v33 (F := Ideal) x0 x1 x2 (ix3 t 0 1)).toNat then val_main_v16 (F := Ideal) x0 x1 x2 (ix2 t 0) else val_main_v17 (F := Ideal) (ix2 t e)) = _
  rw [hk0, hk1, hz, v16_0 x0 x1 x2 t hfin, v16_1 x0 x1 x2 t hfin]
  simp only [hw]
  unfold topW
  have hne := (top2 x0 x1 x2 t).ne
  by_cases hb : e = rb x0 x1 x2 t
  · rw [if_pos hb, if_pos hb, if_neg fun ha => hne (hb.symm.trans ha), zero_add]
  · rw [if_neg hb, if_neg hb, add_zero]

end

end Cert.ReferenceIdeal.Val

end
-- ==== Proof.RefValue.lean ====
/-
  The reference's result, entry by entry: the weighted sum over the experts.
-/
module

public import proofs.«01_k».proof.Proof.RefRouter

@[expose] public section

set_option maxRecDepth 16384

noncomputable section

namespace Cert.ReferenceIdeal.Val

open Cert.ReferenceIdeal Cert.ReferenceIdeal.Gen
open Idealize.ShloMosaic Idealize.ShloMosaic.TcCoe
open MoeSpec
open Cert.ReferenceIdeal.Read

variable (x0 : FVec Ideal S1x2048x768 .f32) (x1 : FVec Ideal S8x768 .f32) (x2 : FVec Ideal S8 .f32) (x3 : FVec Ideal S8x768x4096 .f32)
  (x4 : FVec Ideal S8x4096 .f32) (x5 : FVec Ideal S8x2048x768 .f32) (x6 : FVec Ideal S8x768 .f32) (t : Fin 2048) (h : Fin 768)

/-- The two spellings of the gate's slope are opposite numbers. -/
theorem scale_neg : Ideal.ofBits .f32 0xBFD9DB23#32 = -Ideal.ofBits .f32 0x3FD9DB23#32 := by
  simp [Ideal.ofBits, Ideal.ieee]

/-- The first projection with its bias, entry by entry. -/
theorem v40_row (e : Fin 8) (g : Fin 4096) :
    val_main_v40 (F := Ideal) x0 x3 x4 (ix3 e t g) = (∑ k : Fin 768, x0 (ix3 0 t k) * x3 (ix3 e k g)) + x4 (ix2 e g) := by
  pointwise [val_main_v40, val_main_v39, val_main_v38, val_main_v37, val_main_v36, val_main_v35, val_main_v0]

/-- The gates are the even columns. -/
theorem v41_row (e : Fin 8) (f : Fin 2048) :
    val_main_v41 (F := Ideal) x0 x3 x4 (ix3 e t f) = val_main_v40 (F := Ideal) x0 x3 x4 (ix3 e t ⟨f.val * 2, by omega⟩) := by
  pointwise [val_main_v41]
  exact congrArg (fun z => val_main_v40 (F := Ideal) x0 x3 x4 (ix3 e t z)) (Fin.ext (Nat.mul_comm 2 f.val))

/-- The ups are the odd columns. -/
theorem v42_row (e : Fin 8) (f : Fin 2048) :
    val_main_v42 (F := Ideal) x0 x3 x4 (ix3 e t f) = val_main_v40 (F := Ideal) x0 x3 x4 (ix3 e t ⟨f.val * 2 + 1, by omega⟩) := by
  pointwise [val_main_v42]
  exact congrArg (fun z => val_main_v40 (F := Ideal) x0 x3 x4 (ix3 e t z)) (Fin.ext (by show 1 + 2 * f.val = f.val * 2 + 1; omega))

/-- The hidden layer: the activation of gate and up. -/
theorem v57_row (e : Fin 8) (f : Fin 2048) :
    val_main_v57 (F := Ideal) x0 x3 x4 (ix3 e t f)
      = act (val_main_v40 (F := Ideal) x0 x3 x4 (ix3 e t ⟨f.val * 2, by omega⟩)) (val_main_v40 (F := Ideal) x0 x3 x4 (ix3 e t ⟨f.val * 2 + 1, by omega⟩)) := by
  pointwise [val_main_v57, val_main_v56, val_main_v55, val_main_cst_12, val_main_v54, val_main_v53, val_main_v52, val_main_cst_11, val_main_v51,
    val_main_v50, val_main_cst_10, val_main_v49, val_main_v48, val_main_v47, val_main_v46, val_main_cst_9, val_main_v45, val_main_call0_v4, val_main_call0_v3,
    val_main_call0_v2, val_main_call0_v1, val_main_call0_v0, val_main_cst_7, val_main_cst_8, val_main_v44, val_main_v43, val_main_cst_6]
  rw [v41_row, v42_row]
  unfold act
  rw [scale_neg, neg_mul, mul_comm (Ideal.ofBits .f32 0x3FD9DB23#32)]
  rfl

/-- The second projection is a sum over the hidden layer. -/
theorem v58_row (e : Fin 8) :
    val_main_v58 (F := Ideal) x0 x3 x4 x5 (ix3 e t h) = ∑ f : Fin 2048, val_main_v57 (F := Ideal) x0 x3 x4 (ix3 e t f) * x5 (ix3 e f h) := by
  pointwise [val_main_v58]

/-- An expert's output, its bias added, times the token's weight for it. -/
theorem v65_row (e : Fin 8) :
    val_main_v65 (F := Ideal) x0 x1 x2 x3 x4 x5 x6 (ix3 e t h)
      = (val_main_v58 (F := Ideal) x0 x3 x4 x5 (ix3 e t h) + x6 (ix2 e h)) * val_main_v34 (F := Ideal) x0 x1 x2 (ix2 t e) := by
  pointwise [val_main_v65, val_main_v64, val_main_v63, val_main_v62, val_main_v61, val_main_v60, val_main_v59]

/-- The result sums the eight experts. -/
theorem v67_row :
    val_main_v67 (F := Ideal) x0 x1 x2 x3 x4 x5 x6 (ix3 0 t h) = ∑ e : Fin 8, val_main_v65 (F := Ideal) x0 x1 x2 x3 x4 x5 x6 (ix3 e t h) := by
  pointwise [val_main_v67, val_main_v66, val_main_cst_13]
/-- The reference's result, entry by entry. -/
theorem result_row :
    val_main_v67 (F := Ideal) x0 x1 x2 x3 x4 x5 x6 (ix3 0 t h)
      = mix (fun e f => act ((∑ k : Fin 768, x0 (ix3 0 t k) * x3 (ix3 e k ⟨f.val * 2, by omega⟩)) + x4 (ix2 e ⟨f.val * 2, by omega⟩))
          ((∑ k : Fin 768, x0 (ix3 0 t k) * x3 (ix3 e k ⟨f.val * 2 + 1, by omega⟩)) + x4 (ix2 e ⟨f.val * 2 + 1, by omega⟩)) * x5 (ix3 e f h))
        (fun e => x6 (ix2 e h)) (fun e => val_main_v34 (F := Ideal) x0 x1 x2 (ix2 t e)) := by
  rw [v67_row]
  unfold mix
  simp only [v65_row, v58_row, v57_row, v40_row]

end Cert.ReferenceIdeal.Val

end
-- ==== Proof.Finite.lean ====
/-
  What the precondition says: the three arrays the router's logits are made of hold real numbers, so the logits are real.
-/
module

public import proofs.«01_k».proof.Pre_finite_routing
public import proofs.«01_k».proof.Proof.RefRouter
public import Idealize.ShloMosaic.Lib.ReduceAll

@[expose] public section

set_option maxRecDepth 16384

noncomputable section

namespace MoeSpec

open Idealize.ShloMosaic

/-- An extended real of finite absolute value is neither infinity. -/
theorem finite_of_abs {x : EReal} (h : max x (-x) < ⊤) : x ≠ ⊤ ∧ x ≠ ⊥ := by
  refine ⟨fun e => ?_, fun e => ?_⟩
  · rw [e] at h; exact absurd h (by simp)
  · rw [e] at h; exact absurd h (by simp)

/-- The pattern of plus infinity. -/
theorem pos_inf : Ideal.ofBits .f32 0x7F800000#32 = ⊤ := by simp [Ideal.ofBits, Ideal.ieee]

/-- A product of reals is real. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A sum of two reals is real. -/
theorem add_finite {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- A finite sum of reals is real. -/
theorem sum_finite {ι : Type} (s : Finset ι) (f : ι → EReal) (h : ∀ i, f i ≠ ⊤ ∧ f i ≠ ⊥) : ∑ i ∈ s, f i ≠ ⊤ ∧ ∑ i ∈ s, f i ≠ ⊥ :=
  Finset.sum_induction f (fun x => x ≠ ⊤ ∧ x ≠ ⊥) (fun _ _ => add_finite) ⟨EReal.zero_ne_top, EReal.zero_ne_bot⟩ fun i _ => h i

end MoeSpec

namespace Cert.Pre_finite_routing

open Idealize.ShloMosaic MoeSpec

/-- The side conditions of the precondition's operations. -/
theorem preFacts : Facts where
  bcast_S_S1x2048x768 := by decide
  reducesTo_S1x2048x768_S_d0_1_2 := by decide
  h_S_ := by decide
  bcast_S_S8x768 := by decide
  reducesTo_S8x768_S_d0_1 := by decide
  bcast_S_S8 := by decide
  reducesTo_S8_S_d0 := by decide

variable [Facts]

/-- A result of no axes has one index. -/
instance : Subsingleton S_.Idx := ⟨fun i j => funext fun a => a.elim0⟩

/-- One test of the precondition, read back: every entry is real. -/
theorem entries_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu
      (Shape.Idx.first hu) = 1#1) (i : s.Idx) : x i ≠ ⊤ ∧ x i ≠ ⊥ := by
  have h := Host.reduce_andi_all _ _ hr hu _ e i
  have h' : BitVec.ofBool (decide (max (x i) (-(x i)) < Ideal.ofBits .f32 0x7F800000#32)) = 1#1 := h
  rw [pos_inf] at h'
  refine finite_of_abs ?_
  by_contra hn
  rw [decide_eq_false hn] at h'
  exact absurd h' (by decide)

/-- The precondition gives real entries in the tokens, the router's matrix and the router's bias. -/
theorem real (a0 : FVec Ideal S1x2048x768 .f32) (a1 : FVec Ideal S8x768 .f32) (a2 : FVec Ideal S8 .f32) (a3 : FVec Ideal S8x768x4096 .f32)
    (a4 : FVec Ideal S8x4096 .f32) (a5 : FVec Ideal S8x2048x768 .f32) (a6 : FVec Ideal S8x768 .f32)
    (h : fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have e := congrFun h (Shape.Idx.first Facts.h_S_)
  obtain ⟨e01, e2⟩ := IntOp.andi_eq_one.1 e
  obtain ⟨e0, e1⟩ := IntOp.andi_eq_one.1 e01
  exact ⟨entries_real a0 _ _ _ e0, entries_real a1 _ _ _ e1, entries_real a2 _ _ _ e2⟩

end Cert.Pre_finite_routing

namespace Cert.ReferenceIdeal.Val

open Cert.ReferenceIdeal Idealize.ShloMosaic MoeSpec

/-- Logits made of reals are real. -/
theorem rlg_real (x0 : FVec Ideal S1x2048x768 .f32) (x1 : FVec Ideal S8x768 .f32) (x2 : FVec Ideal S8 .f32) (h0 : ∀ i, x0 i ≠ ⊤ ∧ x0 i ≠ ⊥)
    (h1 : ∀ i, x1 i ≠ ⊤ ∧ x1 i ≠ ⊥) (h2 : ∀ i, x2 i ≠ ⊤ ∧ x2 i ≠ ⊥) (t : Fin 2048) (e : Fin 8) : rlg x0 x1 x2 t e ≠ ⊤ ∧ rlg x0 x1 x2 t e ≠ ⊥ :=
  add_finite (sum_finite _ _ fun k => mul_finite (h0 _) (h1 _)) (h2 _)

end Cert.ReferenceIdeal.Val

end
-- ==== Proof.Equal.lean ====
/-
  The equation: the kernel's result is the reference's, entry by entry.
-/
module

public import proofs.«01_k».proof.Proof.KernelHost
public import proofs.«01_k».proof.Proof.RefValue
public import proofs.«01_k».proof.Proof.Finite

@[expose] public section

set_option maxRecDepth 16384

noncomputable section

namespace Cert.KernelIdeal.Val

open Cert.KernelIdeal Cert.KernelIdeal.Gen
open Idealize.ShloMosaic Idealize.ShloMosaic.TcCoe
open MoeSpec
open Cert.ReferenceIdeal.Val (rlg ra rb top2 v34_row result_row rlg_real)
open Cert.ReferenceIdeal.Read (val_main_v34 val_main_v67)

/-- The experts' sum over whole arrays is the weighted mixture, when the arrays are read entry by entry. -/
theorem parts_mix (RW : FVec Ideal S2048x8 .f32) (X : FVec Ideal S2048x768 .f32) (WG WU : FVec Ideal S8x768x2048 .f32) (DN : FVec Ideal S8x2048x768 .f32)
    (BG BU : FVec Ideal S8x1x2048 .f32) (BD : FVec Ideal S8x1x768 .f32) (i : Fin 2048) (h : Fin 768) (T : Fin 8 → Fin 2048 → EReal) (d w : Fin 8 → EReal)
    (hT : ∀ e f, act ((∑ k : Fin 768, X (ix2 i k) * WG (ix3 e k f)) + BG (ix3 e 0 f)) ((∑ k : Fin 768, X (ix2 i k) * WU (ix3 e k f)) + BU (ix3 e 0 f))
      * DN (ix3 e f h) = T e f)
    (hd : ∀ e, BD (ix3 e 0 h) = d e) (hw : ∀ e, RW (ix2 i e) = w e) (hr : ∀ e, 0 ≤ w e ∧ w e ≠ ⊤) :
    ∑ n : Fin 32, partOf RW X WG WU DN BG BU BD i h n = mix T d w := by
  rw [← points_eq T d w hr]
  refine Finset.sum_congr rfl fun n _ => ?_
  unfold partOf
  simp only [hT, hd, hw]

/-- Two arrays of one batch agree when they agree at every token and column. -/
theorem ext_rows {x y : FVec Ideal S1x2048x768 .f32} (h : ∀ (t : Fin 2048) (k : Fin 768), x (ix3 0 t k) = y (ix3 0 t k)) : x = y := by
  funext j
  have hj : j = ix3 (0 : Fin 1) (j 1) (j 2) :=
    (eq_ix3 j).trans (congrArg (fun z : Fin 1 => (ix3 z (j 1) (j 2) : S1x2048x768.Idx)) (Subsingleton.elim (α := Fin 1) (j 0) 0))
  rw [hj]
  exact h _ _

variable (m : (ℓ : Loc nD τ sig) → Buf (Elt Ideal) ℓ) (ρ : Dev nD → PrngReg) (c : Dev nD)

/-- The kernel's logits are the reference's. -/
theorem klg_eq (t : Fin 2048) :
    klg (V1 m ρ c main_v0) (V1 m ρ c main_v1) (V1 m ρ c main_v2) t
      = rlg (m ((c : Thread nD τ).loc main_arg0)) (m ((c : Thread nD τ).loc main_arg1)) (m ((c : Thread nD τ).loc main_arg2)) t := by
  funext e
  exact congrArg₂ (· + ·)
    (Finset.sum_congr rfl fun k _ => congrArg₂ (· * ·) ((congrFun (v0_eq m ρ c) (ix2 t k)).trans (drop_batch _ t k))
      ((congrFun (v1_eq m ρ c) (ix2 k e)).trans (flip _ k e)))
    ((congrFun (v2_eq m ρ c) (ix2 0 e)).trans (as_row _ e))

/-- The table the experts read holds the reference's weights. -/
theorem table_row (t : Fin 2048) (e : Fin 8)
    (hfin : ∀ e, rlg (m ((c : Thread nD τ).loc main_arg0)) (m ((c : Thread nD τ).loc main_arg1)) (m ((c : Thread nD τ).loc main_arg2)) t e ≠ ⊤
      ∧ rlg (m ((c : Thread nD τ).loc main_arg0)) (m ((c : Thread nD τ).loc main_arg1)) (m ((c : Thread nD τ).loc main_arg2)) t e ≠ ⊥) :
    V3 m ρ c main_v3 (ix2 t e)
      = val_main_v34 (F := Ideal) (m ((c : Thread nD τ).loc main_arg0)) (m ((c : Thread nD τ).loc main_arg1)) (m ((c : Thread nD τ).loc main_arg2)) (ix2 t e) := by
  have hk := klg_eq m ρ c t
  have ht := top2 (m ((c : Thread nD τ).loc main_arg0)) (m ((c : Thread nD τ).loc main_arg1)) (m ((c : Thread nD τ).loc main_arg2)) t
  rw [v34_row _ _ _ t hfin, show V3 m ρ c main_v3 = _ from v3_kept m ρ c, table_array c (V1 m ρ)]
  rw [← hk] at ht hfin ⊢
  exact router_apply ht (hfin _).2 e

/-- The kernel's result is the reference's. -/
theorem result_eq (h0 : ∀ i, m ((c : Thread nD τ).loc main_arg0) i ≠ (⊤ : EReal) ∧ m ((c : Thread nD τ).loc main_arg0) i ≠ (⊥ : EReal))
    (h1 : ∀ i, m ((c : Thread nD τ).loc main_arg1) i ≠ (⊤ : EReal) ∧ m ((c : Thread nD τ).loc main_arg1) i ≠ (⊥ : EReal))
    (h2 : ∀ i, m ((c : Thread nD τ).loc main_arg2) i ≠ (⊤ : EReal) ∧ m ((c : Thread nD τ).loc main_arg2) i ≠ (⊥ : EReal)) :
    W5 m ρ c (Proc.devRef .tc main_v16)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  have key : ∀ (t : Fin 2048) (h : Fin 768), W5 m ρ c (Proc.devRef .tc main_v16) (ix3 0 t h)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (ix3 0 t h) := by
    intro t h
    have hfin := fun e => rlg_real _ _ _ h0 h1 h2 t e
    rw [result_row, v16_eq, add_batch, show W4 m ρ c (Proc.devRef .tc main_v15) = _ from W4_arr m ρ c 8, ffn_array (V3 m ρ) c]
    have a3 := W2_args m ρ c main_arg3 (by decide)
    have a4 := W2_args m ρ c main_arg4 (by decide)
    have a6 := W2_args m ρ c main_arg6 (by decide)
    have e6 := v6_eq m ρ c
    have e8 := v8_eq m ρ c
    have e11 := v11_eq m ρ c
    have e13 := v13_eq m ρ c
    have e14 := v14_eq m ρ c
    rw [a3] at e6 e8
    rw [a4] at e11 e13
    rw [a6] at e14
    have r0 := fun k : Fin 768 => (congrFun ((v0_kept m ρ c).trans (v0_eq m ρ c)) (ix2 t k)).trans (drop_batch _ t k)
    refine parts_mix _ _ _ _ _ _ _ _ t h _ _ _ (fun e f => ?_) (fun e => ?_) (fun e => table_row m ρ c t e hfin) (fun e => ?_)
    · exact congrArg₂ (· * ·)
        (congrArg₂ act
          (congrArg₂ (· + ·) (Finset.sum_congr rfl fun k _ => congrArg₂ (· * ·) (r0 k) ((congrFun e6 (ix3 e k f)).trans (even_cols _ e k f)))
            ((congrFun e11 (ix3 e 0 f)).trans (even_bias _ e f)))
          (congrArg₂ (· + ·) (Finset.sum_congr rfl fun k _ => congrArg₂ (· * ·) (r0 k) ((congrFun e8 (ix3 e k f)).trans (odd_cols _ e k f)))
            ((congrFun e13 (ix3 e 0 f)).trans (odd_bias _ e f))))
        (congrFun (W3_args m ρ c main_arg5 (by decide)) (ix3 e f h))
    · exact (congrFun e14 (ix3 e 0 h)).trans (as_rows _ e h)
    · rw [v34_row _ _ _ t hfin]
      exact topW_real hfin _ _ e
  exact ext_rows key

end Cert.KernelIdeal.Val

end
-- ==== Proof.lean ====
/-
  The proof of `Cert.Claim`: the frames of the kernel and of its idealization, whole as generated; the reference's frame; and
  the equation of the two results where the router's operands are real.
-/
module

public import proofs.«01_k».proof.Defs
public import proofs.«01_k».proof.Proof.Gen.Kernel.Frame
public import proofs.«01_k».proof.Proof.Gen.KernelIdeal.Frame
public import proofs.«01_k».proof.Proof.KernelRun
public import proofs.«01_k».proof.Proof.RefFrame
public import proofs.«01_k».proof.Proof.Equal

@[expose] public section

noncomputable section

namespace Cert.Proof

open Idealize.ShloMosaic Idealize.ShloMosaic.TcCoe Idealize.SL.Sem

/-- At extended reals, where the router's operands are real, kernel and reference run, end with equal results and leave
    their arguments as launched. -/
theorem algebraic [hPre : Cert.Pre_finite_routing.Facts] :
    algebraic_KernelIdeal_ReferenceIdeal_pre_finite_routing (hKernelIdeal := Cert.KernelIdeal.Gen.facts)
      (hReferenceIdeal := Cert.ReferenceIdeal.Gen.facts) (hPre_finite_routing := hPre) := by
  intro m g m' g' hpre hargs
  refine ⟨fun c => Cert.KernelIdeal.Gen.W5 m g c (Proc.devRef .tc Cert.KernelIdeal.main_v16), Cert.KernelIdeal.Val.run_result m g, ?_⟩
  refine (θ_run _ _ _).mono (fun r h c => ?_) (Cert.ReferenceIdeal.Value.run m' g')
  obtain ⟨hv, hrest⟩ := h c
  refine ⟨?_, hrest⟩
  obtain ⟨a0, a1, a2, a3, a4, a5, a6⟩ := hargs c
  obtain ⟨f0, f1, f2⟩ := Cert.Pre_finite_routing.real _ _ _ _ _ _ _ (hpre c)
  refine hv.trans ((Cert.ReferenceIdeal.Read.val_main_v67_eq m' c).trans ?_)
  rw [a0, a1, a2, a3, a4, a5, a6]
  exact (Cert.KernelIdeal.Val.result_eq m g c f0 f1 f2).symm

/-- All that is claimed. -/
theorem claim : Cert.Claim :=
  ⟨Cert.Kernel.Gen.facts, Cert.KernelIdeal.Gen.facts, Cert.ReferenceIdeal.Gen.facts, Cert.Pre_finite_routing.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Val.frame m ρ, fun m ρ _ => Cert.ReferenceIdeal.Val.frame m ρ, trivial,
    algebraic (hPre := Cert.Pre_finite_routing.preFacts)⟩

end Cert.Proof

end
